-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S2x2x64x2x256 Cert.KernelIdeal.S2x2x64x1x256
  ∧ IdealRules.bf16_pair.PackStatement Cert.KernelIdeal.S64x256
  ∧ IdealRules.bf16_pair.Statement Cert.KernelIdeal.S1x1x64x2x256 Cert.KernelIdeal.S1x1x64x1x256
  ∧ IdealRules.bf16_pair.PackStatement Cert.KernelIdeal.S64x128
  ∧ IdealRules.bf16_pair.Statement Cert.KernelIdeal.S1x1x64x2x128 Cert.KernelIdeal.S1x1x64x1x128
  ∧ IdealRules.bf16_pair.Statement Cert.KernelIdeal.S1x1x1x2x256 Cert.KernelIdeal.S1x1x1x1x256
  ∧ IdealRules.bf16_pair.Statement Cert.KernelIdeal.S2x256 Cert.KernelIdeal.S1x256
  ∧ IdealRules.bf16_pair.PackStatement Cert.KernelIdeal.S192x128
  ∧ IdealRules.bf16_pair.Statement Cert.KernelIdeal.S384x128 Cert.KernelIdeal.S192x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8192 : Shape := ⟨3, ![192, 1, 8192]⟩
abbrev S8192x2048 : Shape := ⟨2, ![8192, 2048]⟩
abbrev S64x4096 : Shape := ⟨2, ![64, 4096]⟩
abbrev S64x2048 : Shape := ⟨2, ![64, 2048]⟩
abbrev S192x8192 : Shape := ⟨2, ![192, 8192]⟩
abbrev S192x4096 : Shape := ⟨2, ![192, 4096]⟩
abbrev S8192x256 : Shape := ⟨2, ![8192, 256]⟩
abbrev S64x512 : Shape := ⟨2, ![64, 512]⟩
abbrev S64x256 : Shape := ⟨2, ![64, 256]⟩
abbrev S192x512 : Shape := ⟨2, ![192, 512]⟩
abbrev S2x2x64x256 : Shape := ⟨4, ![2, 2, 64, 256]⟩
abbrev S64x128 : Shape := ⟨2, ![64, 128]⟩
abbrev S1x1x64x256 : Shape := ⟨4, ![1, 1, 64, 256]⟩
abbrev S64x128x1 : Shape := ⟨3, ![64, 128, 1]⟩
abbrev S1x1x64x128 : Shape := ⟨4, ![1, 1, 64, 128]⟩
abbrev S256x256 : Shape := ⟨2, ![256, 256]⟩
abbrev S128x256 : Shape := ⟨2, ![128, 256]⟩
abbrev S1x1x1x256 : Shape := ⟨4, ![1, 1, 1, 256]⟩
abbrev S1x256 : Shape := ⟨2, ![1, 256]⟩
abbrev S2x256 : Shape := ⟨2, ![2, 256]⟩
abbrev S192x256 : Shape := ⟨2, ![192, 256]⟩
abbrev S192x128 : Shape := ⟨2, ![192, 128]⟩
abbrev S192x128x1 : Shape := ⟨3, ![192, 128, 1]⟩
abbrev S192x1x4096 : Shape := ⟨3, ![192, 1, 4096]⟩

abbrev nBuf : Space → Nat
  | .hbm => 7
  | .vmem => 10
  | .smem => 0
  | _ => 0

abbrev bufTy : (tb : Table) → Fin (tcTables nBuf tb) → BufTy
  | .hbm, ⟨0, _⟩ => ⟨S192x1x8192, .bf16⟩
  | .hbm, ⟨1, _⟩ => ⟨S8192x2048, .i8⟩
  | .hbm, ⟨2, _⟩ => ⟨S64x4096, .bf16⟩
  | .hbm, ⟨3, _⟩ => ⟨S64x2048, .i8⟩
  | .hbm, ⟨4, _⟩ => ⟨S192x8192, .bf16⟩
  | .hbm, ⟨5, _⟩ => ⟨S192x4096, .bf16⟩
  | .hbm, ⟨6, _⟩ => ⟨S192x1x4096, .bf16⟩
  | .local _ .vmem, ⟨0, _⟩ => ⟨S192x8192, .bf16⟩
  | .local _ .vmem, ⟨1, _⟩ => ⟨S8192x256, .i8⟩
  | .local _ .vmem, ⟨2, _⟩ => ⟨S8192x256, .i8⟩
  | .local _ .vmem, ⟨3, _⟩ => ⟨S64x512, .bf16⟩
  | .local _ .vmem, ⟨4, _⟩ => ⟨S64x512, .bf16⟩
  | .local _ .vmem, ⟨5, _⟩ => ⟨S64x256, .i8⟩
  | .local _ .vmem, ⟨6, _⟩ => ⟨S64x256, .i8⟩
  | .local _ .vmem, ⟨7, _⟩ => ⟨S192x512, .bf16⟩
  | .local _ .vmem, ⟨8, _⟩ => ⟨S192x512, .bf16⟩
  | .local _ .vmem, ⟨9, _⟩ => ⟨S2x2x64x256, .i32⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S2x2x64x2x256 : Shape := ⟨5, ![2, 2, 64, 2, 256]⟩
abbrev S2x2x64x1x256 : Shape := ⟨5, ![2, 2, 64, 1, 256]⟩
abbrev S1x1x64x2x256 : Shape := ⟨5, ![1, 1, 64, 2, 256]⟩
abbrev S1x1x64x1x256 : Shape := ⟨5, ![1, 1, 64, 1, 256]⟩
abbrev S1x1x64x2x128 : Shape := ⟨5, ![1, 1, 64, 2, 128]⟩
abbrev S1x1x64x1x128 : Shape := ⟨5, ![1, 1, 64, 1, 128]⟩
abbrev S1x1x1x2x256 : Shape := ⟨5, ![1, 1, 1, 2, 256]⟩
abbrev S1x1x1x1x256 : Shape := ⟨5, ![1, 1, 1, 1, 256]⟩
abbrev S384x128 : Shape := ⟨2, ![384, 128]⟩
  | .local _ .vmem, ⟨9, _⟩ => ⟨S2x2x64x2x256, .bf16⟩
variable {F : FTy → Type} [FloatOps F]
-- ==== ReferenceIdeal.lean ====
abbrev S192x1x8192 : Shape := ⟨3, ![192, 1, 8192]⟩
abbrev S8192x2048 : Shape := ⟨2, ![8192, 2048]⟩
abbrev S64x4096 : Shape := ⟨2, ![64, 4096]⟩
abbrev S64x2048 : Shape := ⟨2, ![64, 2048]⟩
abbrev S192x8192 : Shape := ⟨2, ![192, 8192]⟩
abbrev S_ : Shape := ⟨0, ![]⟩
abbrev S64x2048x2 : Shape := ⟨3, ![64, 2048, 2]⟩
abbrev S64x2048x1 : Shape := ⟨3, ![64, 2048, 1]⟩
abbrev S64x128x2048 : Shape := ⟨3, ![64, 128, 2048]⟩
abbrev S64x1x2048 : Shape := ⟨3, ![64, 1, 2048]⟩
abbrev S192x2048 : Shape := ⟨2, ![192, 2048]⟩
abbrev S192x2048x1 : Shape := ⟨3, ![192, 2048, 1]⟩
abbrev S192x2048x2 : Shape := ⟨3, ![192, 2048, 2]⟩
abbrev S192x1x4096 : Shape := ⟨3, ![192, 1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S192x1x8192, .bf16⟩
  | .hbm, ⟨1, _⟩ => ⟨S8192x2048, .i8⟩
  | .hbm, ⟨2, _⟩ => ⟨S64x4096, .bf16⟩
  | .hbm, ⟨3, _⟩ => ⟨S64x2048, .i8⟩
  | .hbm, ⟨4, _⟩ => ⟨S192x8192, .bf16⟩
  | .hbm, ⟨5, _⟩ => ⟨S8192x2048, .i32⟩
  | .hbm, ⟨6, _⟩ => ⟨S_, .i32⟩
  | .hbm, ⟨7, _⟩ => ⟨S8192x2048, .i32⟩
  | .hbm, ⟨8, _⟩ => ⟨S8192x2048, .i32⟩
  | .hbm, ⟨9, _⟩ => ⟨S_, .i32⟩
  | .hbm, ⟨10, _⟩ => ⟨S8192x2048, .i32⟩
  | .hbm, ⟨11, _⟩ => ⟨S8192x2048, .i32⟩
  | .hbm, ⟨12, _⟩ => ⟨S_, .i32⟩
  | .hbm, ⟨13, _⟩ => ⟨S8192x2048, .i32⟩
  | .hbm, ⟨14, _⟩ => ⟨S8192x2048, .i32⟩
  | .hbm, ⟨15, _⟩ => ⟨S64x2048, .i32⟩
  | .hbm, ⟨16, _⟩ => ⟨S_, .i32⟩
  | .hbm, ⟨17, _⟩ => ⟨S64x2048, .i32⟩
  | .hbm, ⟨18, _⟩ => ⟨S64x2048, .i32⟩
  | .hbm, ⟨19, _⟩ => ⟨S_, .i32⟩
  | .hbm, ⟨20, _⟩ => ⟨S64x2048, .i32⟩
  | .hbm, ⟨21, _⟩ => ⟨S64x2048, .i32⟩
  | .hbm, ⟨22, _⟩ => ⟨S_, .i32⟩
  | .hbm, ⟨23, _⟩ => ⟨S64x2048, .i32⟩
  | .hbm, ⟨24, _⟩ => ⟨S64x2048, .i32⟩
  | .hbm, ⟨25, _⟩ => ⟨S64x2048x2, .bf16⟩
  | .hbm, ⟨26, _⟩ => ⟨S64x2048x1, .bf16⟩
  | .hbm, ⟨27, _⟩ => ⟨S64x2048, .bf16⟩
  | .hbm, ⟨28, _⟩ => ⟨S8192x2048, .bf16⟩
  | .hbm, ⟨29, _⟩ => ⟨S64x128x2048, .bf16⟩
  | .hbm, ⟨30, _⟩ => ⟨S64x2048, .bf16⟩
  | .hbm, ⟨31, _⟩ => ⟨S64x1x2048, .bf16⟩
  | .hbm, ⟨32, _⟩ => ⟨S64x1x2048, .bf16⟩
  | .hbm, ⟨33, _⟩ => ⟨S64x128x2048, .bf16⟩
  | .hbm, ⟨34, _⟩ => ⟨S64x128x2048, .bf16⟩
  | .hbm, ⟨35, _⟩ => ⟨S64x128x2048, .bf16⟩
  | .hbm, ⟨36, _⟩ => ⟨S64x128x2048, .bf16⟩
  | .hbm, ⟨37, _⟩ => ⟨S8192x2048, .bf16⟩
  | .hbm, ⟨38, _⟩ => ⟨S64x2048x1, .bf16⟩
  | .hbm, ⟨39, _⟩ => ⟨S64x2048, .bf16⟩
  | .hbm, ⟨40, _⟩ => ⟨S8192x2048, .bf16⟩
  | .hbm, ⟨41, _⟩ => ⟨S64x128x2048, .bf16⟩
  | .hbm, ⟨42, _⟩ => ⟨S64x2048, .bf16⟩
  | .hbm, ⟨43, _⟩ => ⟨S64x1x2048, .bf16⟩
  | .hbm, ⟨44, _⟩ => ⟨S64x1x2048, .bf16⟩
  | .hbm, ⟨45, _⟩ => ⟨S64x128x2048, .bf16⟩
  | .hbm, ⟨46, _⟩ => ⟨S64x128x2048, .bf16⟩
  | .hbm, ⟨47, _⟩ => ⟨S64x128x2048, .bf16⟩
  | .hbm, ⟨48, _⟩ => ⟨S64x128x2048, .bf16⟩
  | .hbm, ⟨49, _⟩ => ⟨S8192x2048, .bf16⟩
  | .hbm, ⟨50, _⟩ => ⟨S192x2048, .f32⟩
  | .hbm, ⟨51, _⟩ => ⟨S192x2048, .f32⟩
  | .hbm, ⟨52, _⟩ => ⟨S192x2048x1, .f32⟩
  | .hbm, ⟨53, _⟩ => ⟨S192x2048x1, .f32⟩
  | .hbm, ⟨54, _⟩ => ⟨S192x2048x2, .f32⟩
  | .hbm, ⟨55, _⟩ => ⟨S192x1x4096, .f32⟩
  | .hbm, ⟨56, _⟩ => ⟨S192x1x4096, .bf16⟩
  | _, _ => ⟨S192x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Proof.KernelBody.lean ====
/-
  The body of the kernel, run once: it ends with the four input buffers as they were and the result and scratch buffers at
  some contents.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body run on whole buffers: the inputs are left as they were, the result and the scratch at some contents. -/
theorem sound_kernel (c : Dev nD) (E : Set ℕ) (i : grid0.Coords)
    (arg1 : Memref sig .tc .vmem S192x8192 .bf16) (harg1 : arg1.IsWhole)
    (arg2 : Memref sig .tc .vmem S8192x256 .i8) (harg2 : arg2.IsWhole)
    (arg3 : Memref sig .tc .vmem S64x512 .bf16) (harg3 : arg3.IsWhole)
    (arg4 : Memref sig .tc .vmem S64x256 .i8) (harg4 : arg4.IsWhole)
    (arg5 : Memref sig .tc .vmem S192x512 .bf16) (harg5 : arg5.IsWhole)
    (arg6 : Memref sig .tc .vmem S2x2x64x256 .i32) (harg6 : arg6.IsWhole)
    (x0 : Vec F S192x8192 .bf16) (x1 : Vec F S8192x256 .i8) (x2 : Vec F S64x512 .bf16) (x3 : Vec F S64x256 .i8)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (∃ d, owns (c : Thread nD τ) arg6 fullShare d)) -∗ K ⟨⟩))
      ⊢ wp frame (wpE (defs₀ (F := F)) Variants.none c none) E
          (cc0_awq_linear i arg1 harg1 arg2 harg2 arg3 harg3 arg4 harg4 arg5 harg5 arg6 harg6) K := by
  simp only [cc0_awq_linear_eq_skeleton]; unfold cc0_awq_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _, _; isplitr
    swap; · iexact H4
    ipureintro; rfl
  iexists _, _; isplitr
  swap; · iexact H5
  ipureintro; rfl

end Cert.Proof.KernelFrame

end
-- ==== Proof.KernelFrame.lean ====
/-
  The frame of the kernel: its pipeline run from the body, the result's contents left unnamed.
-/
module

public import proofs.«01_k».proof.Proof.KernelBody

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The one window whose contents this frame does not name: the result's. -/
def fgt (w : Fin cfg0.W) : Bool := w == 4

/-- The pipeline's proof data on core `c`: the arrays as the region finds them, each input's buffer at its block after
    the body; the result's buffer is forgotten, so its entry is any value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.choice inferInstance
  Φ _ := Pipeline.ΦA spec0 c
  q _ := fullShare
  owed _ := 0

/-- The proof data start from the arrays as the region finds them. -/
theorem A_eq (c : Dev nD) (w : Fin cfg0.W) : (dats m 0 c).A w = V m c (Pipeline.arrRef spec0 w) := by
  dsimp only [dats]

/-- After the body at step `t` the buffer of the inputs holds its block of that step. -/
theorem after0_0 (c : Dev nD) (t : Fin cfg0.N) : (dats m 0 c).after 0 t = iblk m c 0 t := by dsimp only [dats]
/-- After the body at step `t` the buffer of the packed weights holds its block of that step. -/
theorem after0_1 (c : Dev nD) (t : Fin cfg0.N) : (dats m 0 c).after 1 t = iblk m c 1 t := by dsimp only [dats]
/-- After the body at step `t` the buffer of the scales holds its block of that step. -/
theorem after0_2 (c : Dev nD) (t : Fin cfg0.N) : (dats m 0 c).after 2 t = iblk m c 2 t := by dsimp only [dats]
/-- After the body at step `t` the buffer of the packed zero points holds its block of that step. -/
theorem after0_3 (c : Dev nD) (t : Fin cfg0.N) : (dats m 0 c).after 3 t = iblk m c 3 t := by dsimp only [dats]

/-- Before the body at step `t` the buffer of the inputs holds its block of that step. -/
theorem before0_0 (c : Dev nD) (t : Fin cfg0.N) (d) : (dats m 0 c).before 0 t d = iblk m c 0 t :=
  before0_0_of m (dats m 0 c) (A_eq m c 0) (after0_0 m c) t d
/-- Before the body at step `t` the buffer of the packed weights holds its block of that step. -/
theorem before0_1 (c : Dev nD) (t : Fin cfg0.N) (d) : (dats m 0 c).before 1 t d = iblk m c 1 t :=
  before0_1_of m (dats m 0 c) (A_eq m c 1) (after0_1 m c) t d
/-- Before the body at step `t` the buffer of the scales holds its block of that step. -/
theorem before0_2 (c : Dev nD) (t : Fin cfg0.N) (d) : (dats m 0 c).before 2 t d = iblk m c 2 t :=
  before0_2_of m (dats m 0 c) (A_eq m c 2) (after0_2 m c) t d
/-- Before the body at step `t` the buffer of the packed zero points holds its block of that step. -/
theorem before0_3 (c : Dev nD) (t : Fin cfg0.N) (d) : (dats m 0 c).before 3 t d = iblk m c 3 t :=
  before0_3_of m (dats m 0 c) (A_eq m c 3) (after0_3 m c) t d

/-- What the body is called with at point `t`: the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The invariant is the scratch buffer at some contents, beside the generator register. -/
theorem ΦA_eq (c : Dev nD) : (Pipeline.ΦA spec0 c : sProp 𝕄)
    = iprop((∃ d, owns (c : Thread nD τ) (Memref.whole cc0_scratch0) fullShare d) ∗ ∃ r, prngReg c r) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, ΦA_eq]
  iintro ⟨⟨HS, Hg⟩, Ho, ⟨%d0, H0⟩, ⟨%d1, H1⟩, ⟨%d2, H2⟩, ⟨%d3, H3⟩, ⟨%d4, H4⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's obligation of the body, the result's window forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-- The one buffer the host line after the region writes. -/
theorem sfx_T : ∀ ops ∈ ([hostOps1] : List (List (HloOp τ sig (Elt F)))), ∀ op ∈ ops,
    ∀ b : Ref sig .tc, Proc.devRef .tc b ∈ op.writes → b ∈ ({main_v2} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

set_option backward.isDefEq.respectTransparency.types false in
/-- The run: every argument array ends unchanged and every semaphore counter at zero. -/
theorem run_main : θ_run defs (onTc (τ := τ) (main (F := F))) (s₀ m ρ) (fun r =>
    (Pipeline.RDat.FramePostR cfg0 (fun c => (dats m 0 c).toRForget fgt) {main_v2} (V m)) r ∧ r.2.sem = fun _ => 0) :=
  Pipeline.θ_run_frame_around_T_forget (Q' := _) cfgs (dats m) (0 : Fin 1) launch0 defs₀ Variants.none fgt {main_v2} m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame of the kernel: from any memory with zero counters every weakly fair execution terminates, the argument
    arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      ((h.1 c).2 main_arg0 (by
        rw [Finset.mem_sdiff]
        exact ⟨Pipeline.mem_restRefs_of main_arg0 (by decide) (by decide), by decide⟩)).trans (V_main_arg0 m c),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c))⟩, h.2⟩) (run_main m ρ)

end Cert.Proof.KernelFrame

end
-- ==== Proof.Block.lean ====
/-
  What one grid step of the kernel computes, as plain functions of the four blocks it reads: the table of scales and
  zero points it prepares, the weight tile of each pass, the chain of passes through the two matrix units, and the
  block of the result it stores.
-/
module

public import proofs.«01_k».proof.Proof.Gen.KernelIdeal.Frame
public import proofs.«01_k».proof.Proof.Gen.KernelIdeal.Skeleton
public import Idealize.ShloMosaic.Lib.Mxu.PassChain

@[expose] public section

set_option maxRecDepth 16384

noncomputable section

namespace Cert.Proof.Block

open Cert.KernelIdeal Cert.KernelIdeal.Gen
open Idealize.ShloMosaic Idealize.ShloMosaic.TcCoe Idealize.ShloMosaic.Tactic

variable {F : FTy → Type} [FloatOps F]

/-! ## The table of scales and zero points -/

/-- The lane numbers of a 64-row table. -/
def lanes64 : IVec S64x128 32 := iota .tc S64x128 32 [1] iota_S64x128_d1_w32

/-- The source lane of each lane of a scale field: `(2 * lane + f) mod 128`. -/
def srcLane (f : BitVec 32) : IVec S64x128 32 :=
  andi (addi (muli (broadcast S64x128 2#32) lanes64) (broadcast S64x128 f)) (broadcast S64x128 127#32)

/-- A lane index with a negative value moved up by 128. -/
def wrap64 (i : IVec S64x128 32) : IVec S64x128 32 :=
  shapeCast S64x128 (shapeCast S64x128x1 (select (cmpi .slt i (broadcast S64x128 0#32)) (addi i (broadcast S64x128 128#32)) i)
    shapeCasts_S64x128_S64x128x1) shapeCasts_S64x128x1_S64x128

/-- Every second lane, from `f`, of two 128-lane vectors side by side. -/
def pick (f : BitVec 32) (a b : FVec F S64x128 .f32) : FVec F S64x128 .f32 :=
  select (cmpi .slt lanes64 (broadcast S64x128 64#32)) (dynamicGather 1 a (wrap64 (srcLane f))) (dynamicGather 1 b (wrap64 (srcLane f)))

/-- A 128-lane field with each row written twice, as a pair of bf16 rows. -/
def pair128 (v : FVec F S64x128 .f32) : Vec F S1x1x64x2x128 .bf16 :=
  interleaveRows S1x1x64x2x128
    (shapeCast S1x1x64x1x128 (shapeCast S1x1x64x128 (truncf .bf16 v bitsLt_bf16_f32) shapeCasts_S64x128_S1x1x64x128) shapeCasts_S1x1x64x128_S1x1x64x1x128)
    (shapeCast S1x1x64x1x128 (shapeCast S1x1x64x128 (truncf .bf16 v bitsLt_bf16_f32) shapeCasts_S64x128_S1x1x64x128) shapeCasts_S1x1x64x128_S1x1x64x1x128)
    bitcasts_S1x1x64x2x128_w16_S1x1x64x1x128_w32

/-- A 256-lane field with each row written twice, as a pair of bf16 rows. -/
def pair256 (v : FVec F S64x256 .f32) : Vec F S1x1x64x2x256 .bf16 :=
  interleaveRows S1x1x64x2x256
    (shapeCast S1x1x64x1x256 (shapeCast S1x1x64x256 (truncf .bf16 v bitsLt_bf16_f32) shapeCasts_S64x256_S1x1x64x256) shapeCasts_S1x1x64x256_S1x1x64x1x256)
    (shapeCast S1x1x64x1x256 (shapeCast S1x1x64x256 (truncf .bf16 v bitsLt_bf16_f32) shapeCasts_S64x256_S1x1x64x256) shapeCasts_S1x1x64x256_S1x1x64x1x256)
    bitcasts_S1x1x64x2x256_w16_S1x1x64x1x256_w32

/-- The zero points of one nibble: the bytes shifted right by `sh`, their low four bits, as numbers. -/
def zeroField (sh : BitVec 32) (z : Vec F S64x256 .i8) : FVec F S64x256 .f32 :=
  sitofp .f32 (andi (shrsi (extui 32 z natLt_8_32) (broadcast S64x256 sh)) (broadcast S64x256 15#32))

/-- The scales of one nibble, for the low 128 columns of the tile. -/
def scaleLo (f : BitVec 32) (s : Vec F S64x512 .bf16) : FVec F S64x128 .f32 :=
  pick f (extractStridedSlice S64x128 ![0, 0] (extf .f32 s bitsLt_bf16_f32) slices_S64x512_o0_0_S64x128)
    (extractStridedSlice S64x128 ![0, 128] (extf .f32 s bitsLt_bf16_f32) slices_S64x512_o0_128_S64x128)

/-- The scales of one nibble, for the high 128 columns of the tile. -/
def scaleHi (f : BitVec 32) (s : Vec F S64x512 .bf16) : FVec F S64x128 .f32 :=
  pick f (extractStridedSlice S64x128 ![0, 256] (extf .f32 s bitsLt_bf16_f32) slices_S64x512_o0_256_S64x128)
    (extractStridedSlice S64x128 ![0, 384] (extf .f32 s bitsLt_bf16_f32) slices_S64x512_o0_384_S64x128)

/-- The six stores that fill the table, last first. -/
def tablePieces (s : Vec F S64x512 .bf16) (z : Vec F S64x256 .i8) : List (View.Piece (Elt F) S2x2x64x2x256 .bf16) :=
  [⟨Rect.unit ![1, 0, 0, 0, 128] S1x1x64x2x128.size inb_S2x2x64x2x256_S1x1x64x2x128_1_0_0_0_128, pair128 (scaleHi 1#32 s)⟩,
   ⟨Rect.unit ![1, 0, 0, 0, 0] S1x1x64x2x128.size inb_S2x2x64x2x256_S1x1x64x2x128_1_0_0_0_0, pair128 (scaleLo 1#32 s)⟩,
   ⟨Rect.unit ![1, 1, 0, 0, 0] S1x1x64x2x256.size inb_S2x2x64x2x256_S1x1x64x2x256_1_1_0_0_0, pair256 (zeroField 4#32 z)⟩,
   ⟨Rect.unit ![0, 0, 0, 0, 128] S1x1x64x2x128.size inb_S2x2x64x2x256_S1x1x64x2x128_0_0_0_0_128, pair128 (scaleHi 0#32 s)⟩,
   ⟨Rect.unit ![0, 0, 0, 0, 0] S1x1x64x2x128.size inb_S2x2x64x2x256_S1x1x64x2x128_0_0_0_0_0, pair128 (scaleLo 0#32 s)⟩,
   ⟨Rect.unit ![0, 1, 0, 0, 0] S1x1x64x2x256.size inb_S2x2x64x2x256_S1x1x64x2x256_0_1_0_0_0, pair256 (zeroField 0#32 z)⟩]

/-- The stores fill the whole table. -/
theorem table_cover (s : Vec F S64x512 .bf16) (z : Vec F S64x256 .i8) (y : S2x2x64x2x256.Idx) :
    ∃ p ∈ tablePieces s z, y ∈ p.1.set :=
  View.cover_of_tiledBy (tablePieces s z) ![1, 1, 64, 2, 128] (by sl_kernel_rfl) y

/-- The table of scales and zero points. -/
def table (s : Vec F S64x512 .bf16) (z : Vec F S64x256 .i8) : Vec F S2x2x64x2x256 .bf16 := View.canon (tablePieces s z)

/-! ## The weight tile of a pass -/

/-- The place in the table of the row of nibble `f`, kind `w` (0 scale, 1 zero point) and group `g`. -/
abbrev rowRect (f w : Fin 2) (g : Fin 64) : Rect S2x2x64x2x256 :=
  Rect.unit ![f.val, w.val, g.val, 0, 0] S1x1x1x2x256.size (by
    intro a; have := f.isLt; have := w.isLt; have := g.isLt
    match a with
    | 0 => show f.val + 1 ≤ 2; omega
    | 1 => show w.val + 1 ≤ 2; omega
    | 2 => show g.val + 1 ≤ 64; omega
    | 3 => show 0 + 2 ≤ 2; omega
    | 4 => show 0 + 256 ≤ 256; omega)

/-- One row of the table spread over the 128 rows of its group. -/
def spread (raw : Vec F S1x1x1x2x256 .bf16) : FVec F S128x256 .bf16 :=
  broadcastTo S128x256 (shapeCast S1x256 (extractStridedSlice S1x256 ![0, 0] (interleaveRows S2x256
    (shapeCast S1x256 (shapeCast S1x1x1x256 (rowsOfParity 0 S1x1x1x1x256 raw bitcasts_S1x1x1x2x256_w16_S1x1x1x1x256_w32) shapeCasts_S1x1x1x1x256_S1x1x1x256) shapeCasts_S1x1x1x256_S1x256)
    (shapeCast S1x256 (shapeCast S1x1x1x256 (rowsOfParity 1 S1x1x1x1x256 raw bitcasts_S1x1x1x2x256_w16_S1x1x1x1x256_w32) shapeCasts_S1x1x1x1x256_S1x1x1x256) shapeCasts_S1x1x1x256_S1x256)
    bitcasts_S2x256_w16_S1x256_w32) slices_S2x256_o0_0_S1x256) shapeCasts_S1x256_S1x256) broadcasts_S1x256_S128x256

/-- The codes of one nibble of a 256-row tile of bytes, unpacked four bytes at a time. -/
def codes (sh : BitVec 32) (w : Vec F S256x256 .i8) : IVec S256x256 8 :=
  bitcast S256x256 8 (andi (shrui (bitcast S64x256 32 w bitcasts_S256x256_w8_S64x256_w32) (broadcast S64x256 sh))
    (broadcast S64x256 252645135#32)) bitcasts_S64x256_w32_S256x256_w8

/-- A tile from its codes and the scale and zero rows of its two groups. -/
def tileOf (c : IVec S256x256 8) (z0 s0 z1 s1 : Vec F S1x1x1x2x256 .bf16) : FVec F S256x256 .bf16 :=
  concatenate S256x256 0
    [⟨S128x256, mulf (subf (sitofp .bf16 (extractStridedSlice S128x256 ![0, 0] c slices_S256x256_o0_0_S128x256)) (spread z0)) (spread s0)⟩,
     ⟨S128x256, mulf (subf (sitofp .bf16 (extractStridedSlice S128x256 ![128, 0] c slices_S256x256_o128_0_S128x256)) (spread z1)) (spread s1)⟩]
    concatenates_S128x256_S128x256_S256x256_d0

/-- The shift that brings nibble `f` down: 0 or 4. -/
def shiftOf (f : Fin 2) : BitVec 32 := match f with
  | 0 => 0#32
  | 1 => 4#32

/-- The tile pass `k` pushes for nibble `f`, from the pass's bytes and the rows of the table. -/
def tile (W : Fin 32 → Vec F S256x256 .i8) (row : Fin 2 → Fin 2 → Fin 64 → Vec F S1x1x1x2x256 .bf16) (f : Fin 2) (k : Fin 32) :
    FVec F S256x256 .bf16 :=
  tileOf (codes (shiftOf f) (W k)) (row f 1 ⟨2 * k.val, by omega⟩) (row f 0 ⟨2 * k.val, by omega⟩)
    (row f 1 ⟨2 * k.val + 1, by omega⟩) (row f 0 ⟨2 * k.val + 1, by omega⟩)

/-! ## The chain of passes -/

/-- The staging register pass `k` uses. -/
abbrev regOf (k : ℕ) : Fin 2 := ⟨k % 2, Nat.mod_lt _ (by decide)⟩

/-- One pass: a tile into each unit, then the left operand against both. -/
def pass (s : Mxu F) (r : Fin 2) (t0 t1 : FVec F S256x256 .bf16) (x : FVec F S192x256 .bf16) : Mxu F :=
  (((s.pushed 0 r false t0).pushed 1 r false t1).accLhs 0 r 0 x fits_0_192).accLhs 1 r 0 x fits_0_192

/-- The state of the units after the first `n` passes. -/
def chain (T : Fin 2 → Fin 32 → FVec F S256x256 .bf16) (X : Fin 32 → FVec F S192x256 .bf16) : (n : ℕ) → n ≤ 32 → Mxu F
  | 0, _ => Mxu.init
  | n + 1, h => pass (chain T X n (by omega)) (regOf n) (T 0 ⟨n, by omega⟩) (T 1 ⟨n, by omega⟩) (X ⟨n, by omega⟩)

/-- What the first unit holds at the end: the even columns. -/
def evenSum (T : Fin 2 → Fin 32 → FVec F S256x256 .bf16) (X : Fin 32 → FVec F S192x256 .bf16) : FVec F S192x256 .f32 :=
  (chain T X 32 (le_refl _)).read 0 0 fits_0_192

/-- What the second unit holds at the end, the first popped: the odd columns. -/
def oddSum (T : Fin 2 → Fin 32 → FVec F S256x256 .bf16) (X : Fin 32 → FVec F S192x256 .bf16) : FVec F S192x256 .f32 :=
  ((chain T X 32 (le_refl _)).pop 0 0 192 fits_0_192).read 1 0 fits_0_192

/-! ## The stored block -/

/-- The lane numbers of a 192-row block. -/
def lanes192 : IVec S192x128 32 := iota .tc S192x128 32 [1] iota_S192x128_d1_w32

/-- The odd lanes. -/
def isOdd : IVec S192x128 1 :=
  cmpi .eq (andi lanes192 (broadcast S192x128 1#32)) (broadcast S192x128 1#32)

/-- The source lane of each lane of an interleaved store: half the lane, plus `h`. -/
def halfLane (h : BitVec 32) : IVec S192x128 32 :=
  addi (shrsi lanes192 (broadcast S192x128 1#32)) (broadcast S192x128 h)

/-- A lane index with a negative value moved up by 128. -/
def wrap192 (i : IVec S192x128 32) : IVec S192x128 32 :=
  shapeCast S192x128 (shapeCast S192x128x1 (select (cmpi .slt i (broadcast S192x128 0#32)) (addi i (broadcast S192x128 128#32)) i)
    shapeCasts_S192x128_S192x128x1) shapeCasts_S192x128x1_S192x128

/-- Even and odd columns interleaved: 64 of each, from lane `h`. -/
def weave (h : BitVec 32) (e o : FVec F S192x128 .f32) : FVec F S192x128 .bf16 :=
  truncf .bf16 (extf .f32 (select isOdd (truncf .bf16 (dynamicGather 1 o (wrap192 (halfLane h))) bitsLt_bf16_f32)
    (truncf .bf16 (dynamicGather 1 e (wrap192 (halfLane h))) bitsLt_bf16_f32)) bitsLt_bf16_f32) bitsLt_bf16_f32

/-- The low 128 columns of a pop. -/
def low128 (v : FVec F S192x256 .f32) : FVec F S192x128 .f32 := extractStridedSlice S192x128 ![0, 0] v slices_S192x256_o0_0_S192x128

/-- The high 128 columns of a pop. -/
def high128 (v : FVec F S192x256 .f32) : FVec F S192x128 .f32 := extractStridedSlice S192x128 ![0, 128] v slices_S192x256_o0_128_S192x128

/-- The four stores of the result block, last first. -/
def outPieces (e o : FVec F S192x256 .f32) : List (View.Piece (Elt F) S192x512 .bf16) :=
  [⟨Rect.unit ![0, 384] S192x128.size inb_S192x512_S192x128_0_384, weave 64#32 (high128 e) (high128 o)⟩,
   ⟨Rect.unit ![0, 256] S192x128.size inb_S192x512_S192x128_0_256, weave 0#32 (high128 e) (high128 o)⟩,
   ⟨Rect.unit ![0, 128] S192x128.size inb_S192x512_S192x128_0_128, weave 64#32 (low128 e) (low128 o)⟩,
   ⟨Rect.unit ![0, 0] S192x128.size inb_S192x512_S192x128_0_0, weave 0#32 (low128 e) (low128 o)⟩]

/-- The stores fill the whole block. -/
theorem out_cover (e o : FVec F S192x256 .f32) (y : S192x512.Idx) : ∃ p ∈ outPieces e o, y ∈ p.1.set :=
  View.cover_of_tiled (outPieces e o) S192x128.size (by rfl) y

/-- The left operand of pass `k`: 256 columns of the block of `x`. -/
abbrev xRect (k : Fin 32) : Rect S192x8192 :=
  Rect.unit ![0, 256 * k.val] S192x256.size (by
    intro a; have := k.isLt
    match a with
    | 0 => show 0 + 192 ≤ 192; omega
    | 1 => show 256 * k.val + 256 ≤ 8192; omega)

/-- The bytes of pass `k`: 256 rows of the block of packed weights. -/
abbrev wRect (k : Fin 32) : Rect S8192x256 :=
  Rect.unit ![256 * k.val, 0] S256x256.size (by
    intro a; have := k.isLt
    match a with
    | 0 => show 256 * k.val + 256 ≤ 8192; omega
    | 1 => show 0 + 256 ≤ 256; omega)

/-- The left operand of a pass from its load. -/
def lhs (X : Fin 32 → Vec F S192x256 .bf16) (k : Fin 32) : FVec F S192x256 .bf16 := shapeCast S192x256 (X k) shapeCasts_S192x256_S192x256

/-- The result block as a function of the loads. -/
def outOf (X : Fin 32 → Vec F S192x256 .bf16) (W : Fin 32 → Vec F S256x256 .i8)
    (row : Fin 2 → Fin 2 → Fin 64 → Vec F S1x1x1x2x256 .bf16) : Vec F S192x512 .bf16 :=
  View.canon (outPieces (evenSum (tile W row) (lhs X)) (oddSum (tile W row) (lhs X)))

/-- The result block as a function of the four blocks read. -/
def out (x0 : Vec F S192x8192 .bf16) (x1 : Vec F S8192x256 .i8) (x2 : Vec F S64x512 .bf16) (x3 : Vec F S64x256 .i8) :
    Vec F S192x512 .bf16 :=
  outOf (fun k => View.ld x0 (xRect k)) (fun k => View.ld x1 (wRect k))
    (fun f w g => View.ld (table (View.ld x2 (Rect.unit ![0, 0] S64x512.size inb_S64x512_S64x512_0_0))
      (View.ld x3 (Rect.unit ![0, 0] S64x256.size inb_S64x256_S64x256_0_0))) (rowRect f w g))

end Cert.Proof.Block

end
-- ==== Proof.KernelIdealBody.lean ====
module

public import proofs.«01_k».proof.Proof.Gen.KernelIdeal.Frame
public import proofs.«01_k».proof.Proof.Gen.KernelIdeal.Skeleton
public import proofs.«01_k».proof.Proof.Block
public import Idealize.ShloMosaic.Lib.Claim

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body run on whole buffers: the inputs are left as they were, the result at the block computed from them, the scratch at
    some contents. -/
theorem sound_kernel (c : Dev nD) (E : Set ℕ) (i : grid0.Coords)
    (arg1 : Memref sig .tc .vmem S192x8192 .bf16) (harg1 : arg1.IsWhole)
    (arg2 : Memref sig .tc .vmem S8192x256 .i8) (harg2 : arg2.IsWhole)
    (arg3 : Memref sig .tc .vmem S64x512 .bf16) (harg3 : arg3.IsWhole)
    (arg4 : Memref sig .tc .vmem S64x256 .i8) (harg4 : arg4.IsWhole)
    (arg5 : Memref sig .tc .vmem S192x512 .bf16) (harg5 : arg5.IsWhole)
    (arg6 : Memref sig .tc .vmem S2x2x64x2x256 .bf16) (harg6 : arg6.IsWhole)
    (x0 : Vec F S192x8192 .bf16) (x1 : Vec F S8192x256 .i8) (x2 : Vec F S64x512 .bf16) (x3 : Vec F S64x256 .i8)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (Block.out x0 x1 x2 x3)
            ∗ (∃ d, owns (c : Thread nD τ) arg6 fullShare d)) -∗ K ⟨⟩))
      ⊢ wp frame (wpE (defs₀ (F := F)) Variants.none c none) E
          (cc0_awq_linear i arg1 harg1 arg2 harg2 arg3 harg3 arg4 harg4 arg5 harg5 arg6 harg6) K := by
  simp only [cc0_awq_linear_eq_skeleton]; unfold cc0_awq_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    have hrow : (fun (f w : Fin 2) (g : Fin 64) => arg6.view.readCov (sound_kernel.sl.H5_6 c arg3 arg4 f2 f3) (Block.rowRect f w g).toLoadRect)
        = fun f w g => View.ld (Block.table (View.ld (arg3.view.read (Elt F) f2) (Rect.unit ![0, 0] S64x512.size inb_S64x512_S64x512_0_0))
            (View.ld (arg4.view.read (Elt F) f3) (Rect.unit ![0, 0] S64x256.size inb_S64x256_S64x256_0_0))) (Block.rowRect f w g) := by
      funext f w g
      exact View.readCov_eq_canon_ld _ _ _ (Block.table_cover _ _)
    refine (View.read_writes_eq_canon _ _ _ (Block.out_cover (sound_kernel.sl.v2759_r0 c arg1 arg2 arg3 arg4 arg6 f0 f1 f2 f3)
      (sound_kernel.sl.v2760_r0 c arg1 arg2 arg3 arg4 arg6 f0 f1 f2 f3))).trans ?_
    have hout : Block.out (arg1.view.read (Elt F) f0) (arg2.view.read (Elt F) f1) (arg3.view.read (Elt F) f2) (arg4.view.read (Elt F) f3)
        = Block.outOf (fun k => View.ld (arg1.view.read (Elt F) f0) (Block.xRect k)) (fun k => View.ld (arg2.view.read (Elt F) f1) (Block.wRect k))
            (fun f w g => arg6.view.readCov (sound_kernel.sl.H5_6 c arg3 arg4 f2 f3) (Block.rowRect f w g).toLoadRect) := by
      rw [hrow]; rfl
    rw [hout]
    rfl
  iexists _, _; isplitr
  swap; · iexact H5
  ipureintro; rfl

end Cert.Proof.KernelIdealFrame

end
-- ==== Proof.KernelIdealFrame.lean ====
/-
  The run of the kernel with ideal floats: the proof data of its pipeline (the result's buffer holds `Block.out` of the four
  input blocks after each step), the body's obligation, the run with everything it says of the final memory, and the frame.
-/
module

public import proofs.«01_k».proof.Proof.KernelIdealBody

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data on core `c`: the arrays as the region finds them, each input's buffer at its block after
    the body, the result's buffer at the block computed from the four. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Block.out (iblk m c 0 t) (iblk m c 1 t) (iblk m c 2 t) (iblk m c 3 t)
  Φ _ := Pipeline.ΦA spec0 c
  q _ := fullShare
  owed _ := 0

/-- The proof data start from the arrays as the region finds them. -/
theorem A_eq (c : Dev nD) (w : Fin cfg0.W) : (dats m 0 c).A w = V m c (Pipeline.arrRef spec0 w) := by
  dsimp only [dats]

/-- After the body at step `t` the buffer of the inputs holds its block of that step. -/
theorem after0_0 (c : Dev nD) (t : Fin cfg0.N) : (dats m 0 c).after 0 t = iblk m c 0 t := by dsimp only [dats]
/-- After the body at step `t` the buffer of the packed weights holds its block of that step. -/
theorem after0_1 (c : Dev nD) (t : Fin cfg0.N) : (dats m 0 c).after 1 t = iblk m c 1 t := by dsimp only [dats]
/-- After the body at step `t` the buffer of the scales holds its block of that step. -/
theorem after0_2 (c : Dev nD) (t : Fin cfg0.N) : (dats m 0 c).after 2 t = iblk m c 2 t := by dsimp only [dats]
/-- After the body at step `t` the buffer of the packed zero points holds its block of that step. -/
theorem after0_3 (c : Dev nD) (t : Fin cfg0.N) : (dats m 0 c).after 3 t = iblk m c 3 t := by dsimp only [dats]
/-- After the body at step `t` the buffer of the result holds what the body stores. -/
theorem after0_4 (c : Dev nD) (t : Fin cfg0.N) :
    (dats m 0 c).after 4 t = Block.out (iblk m c 0 t) (iblk m c 1 t) (iblk m c 2 t) (iblk m c 3 t) := by dsimp only [dats]

/-- Before the body at step `t` the buffer of the inputs holds its block of that step. -/
theorem before0_0 (c : Dev nD) (t : Fin cfg0.N) (d) : (dats m 0 c).before 0 t d = iblk m c 0 t :=
  before0_0_of m (dats m 0 c) (A_eq m c 0) (after0_0 m c) t d
/-- Before the body at step `t` the buffer of the packed weights holds its block of that step. -/
theorem before0_1 (c : Dev nD) (t : Fin cfg0.N) (d) : (dats m 0 c).before 1 t d = iblk m c 1 t :=
  before0_1_of m (dats m 0 c) (A_eq m c 1) (after0_1 m c) t d
/-- Before the body at step `t` the buffer of the scales holds its block of that step. -/
theorem before0_2 (c : Dev nD) (t : Fin cfg0.N) (d) : (dats m 0 c).before 2 t d = iblk m c 2 t :=
  before0_2_of m (dats m 0 c) (A_eq m c 2) (after0_2 m c) t d
/-- Before the body at step `t` the buffer of the packed zero points holds its block of that step. -/
theorem before0_3 (c : Dev nD) (t : Fin cfg0.N) (d) : (dats m 0 c).before 3 t d = iblk m c 3 t :=
  before0_3_of m (dats m 0 c) (A_eq m c 3) (after0_3 m c) t d

/-- What the body is called with at point `t`: the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The invariant is the scratch buffer at some contents, beside the generator register. -/
theorem ΦA_eq (c : Dev nD) : (Pipeline.ΦA spec0 c : sProp 𝕄)
    = iprop((∃ d, owns (c : Thread nD τ) (Memref.whole cc0_scratch0) fullShare d) ∗ ∃ r, prngReg c r) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, ΦA_eq]
  iintro ⟨⟨HS, Hg⟩, Ho, ⟨%d0, H0⟩, ⟨%d1, H1⟩, ⟨%d2, H2⟩, ⟨%d3, H3⟩, ⟨%d4, H4⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end as the proof data say, every other buffer as the host lines leave it, and every semaphore
    counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the kernel: from any memory with zero counters every weakly fair execution terminates, the argument
    arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result after the run: the pipeline's output array, reshaped by the host line after the region. -/
theorem result_eq (c : Dev nD) : Pipeline.afterTail₀ cfgs (dats m) 0 (V0 m) [hostOps1] c main_v2
    = (shapeCast S192x1x4096 ((dats m 0 c).arrAt 4 cfg0.N : Vec F S192x4096 .bf16) shapeCasts_S192x4096_S192x1x4096 : Vec F S192x1x4096 .bf16) := by
  unfold Pipeline.afterTail₀
  simp only [List.flatten_cons, List.flatten_nil, List.append_nil, hostOps1]
  after_results
  exact congrArg (fun v : Vec F S192x4096 .bf16 => (shapeCast S192x1x4096 v shapeCasts_S192x4096_S192x1x4096 : Vec F S192x1x4096 .bf16))
    (Pipeline.withArrays_arr spec0 launch0.win.arr_inj c (V0 m c) (fun w => (dats m 0 c).arrAt w cfg0.N) 4)

/-- The run read at the result and the arguments: the result is `arrAt`'s output array reshaped, the arguments as launched. -/
theorem run : θ_run defs (onTc (τ := τ) (main (F := F))) ⟨m, fun _ => 0, ρ⟩ (fun r => ∀ c : Dev nD,
      r.2.mem ((c.tc : Thread nD τ).loc main_v2)
        = (shapeCast S192x1x4096 ((dats m 0 c).arrAt 4 cfg0.N : Vec F S192x4096 .bf16) shapeCasts_S192x4096_S192x1x4096 : Vec F S192x1x4096 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).2 main_v2 (Pipeline.mem_restRefs_of main_v2 (by decide) (by decide))).trans (result_eq m c),
    h.2.1 c⟩) (θ_run_and (run_main m ρ) (frame m ρ))

end Cert.Proof.KernelIdealFrame

end
-- ==== Proof.Chain.lean ====
/-
  What the chain of passes leaves in the two matrix units, with ideal floats: each unit holds the sum over the passes of the
  products of the pass's left operand with the tile pushed to that unit.
-/
module

public import proofs.«01_k».proof.Proof.Block
public import Idealize.ShloMosaic.Lib.MatmulPlain
public import Idealize.ShloMosaic.Lib.Pointwise

@[expose] public section

set_option maxRecDepth 16384

noncomputable section

namespace Cert.Proof.Chain

open Cert.KernelIdeal Cert.KernelIdeal.Gen Cert.Proof.Block
open Idealize.ShloMosaic Idealize.ShloMosaic.TcCoe Idealize.ShloMosaic.Tactic

variable (T : Fin 2 → Fin 32 → FVec Ideal S256x256 .bf16) (X : Fin 32 → FVec Ideal S192x256 .bf16)

/-- One pass with ideal floats at an index: the products of a row of the left operand with a column of the tile, added up. -/
theorem mxuPass_apply (x : FVec Ideal S192x256 .bf16) (t : FVec Ideal S256x256 .bf16) (r : Fin 192) (j : Fin 256) :
    (FloatOps.mxuPass (DotDims.plain 192 256 256) x t : FVec Ideal S192x256 .f32) (ix2 r j)
      = ∑ e : Fin 256, (x (ix2 r e) : EReal) * t (ix2 e j) := by
  have h := Ideal.matmul_plain_apply (M := 192) (K := 256) (N := 256) none x t (fun _ => (0 : EReal)) r j
  rw [zero_add] at h
  refine Eq.trans ?_ h
  rw [Ideal.matmul_apply, zero_add]
  rfl

variable (s : Mxu Ideal) (r : Fin 2) (t0 t1 : FVec Ideal S256x256 .bf16) (x : FVec Ideal S192x256 .bf16)

/-- A pass that starts with empty staging registers leaves them empty. -/
theorem pass_reg (hreg : ∀ q r, s.reg q r = none) (q r' : Fin 2) : (pass s r t0 t1 x).reg q r' = none := by
  unfold pass
  have h00 := hreg 0 0
  have h01 := hreg 0 1
  have h10 := hreg 1 0
  have h11 := hreg 1 1
  match q, r', r with
  | 0, 0, 0 | 0, 0, 1 | 0, 1, 0 | 0, 1, 1 | 1, 0, 0 | 1, 0, 1 | 1, 1, 0 | 1, 1, 1 =>
    simp [Mxu.reg_accLhs_ne, Mxu.reg_pushed_ne, h00, h01, h10, h11]

/-- After a pass the rows of the result are live in both units. -/
theorem pass_live (q : Fin 2) (i : Fin 192) : (pass s r t0 t1 x).live q (Mxu.row fits_0_192 i) = true := by
  unfold pass
  match q with
  | 0 => simp [Mxu.live_accLhs, Mxu.row]
  | 1 => simp [Mxu.live_accLhs, Mxu.row]

/-- What the first unit reads after a pass: its tile's products, added to the rows it held if they were live. -/
theorem pass_read0 (hreg : ∀ q r, s.reg q r = none) : (pass s r t0 t1 x).read 0 0 fits_0_192 = fun i =>
    Mxu.deposit (s.live 0 (Mxu.row fits_0_192 (i 0))) (s.read 0 0 fits_0_192 i) (FloatOps.mxuPass (DotDims.plain 192 256 256) x t0 i) := by
  unfold pass
  rw [Mxu.read_accLhs_ne _ _ _ _ _ _ _ _ _ (Or.inl (by decide)), Mxu.read_accLhs]
  funext i
  rw [Mxu.staged_eq, Mxu.reg_pushed_ne _ _ _ _ _ _ _ (by simp), Mxu.reg_pushed_of_none _ _ _ _ _ (hreg 0 r), Mxu.live_pushed, Mxu.live_pushed,
    Mxu.read_pushed, Mxu.read_pushed]
  rfl

/-- What the second unit reads after a pass. -/
theorem pass_read1 (hreg : ∀ q r, s.reg q r = none) : (pass s r t0 t1 x).read 1 0 fits_0_192 = fun i =>
    Mxu.deposit (s.live 1 (Mxu.row fits_0_192 (i 0))) (s.read 1 0 fits_0_192 i) (FloatOps.mxuPass (DotDims.plain 192 256 256) x t1 i) := by
  unfold pass
  rw [Mxu.read_accLhs]
  funext i
  have hr : ((s.pushed 0 r false t0).reg 1 r) = none := by rw [Mxu.reg_pushed_ne _ _ _ _ _ _ _ (by simp)]; exact hreg 1 r
  rw [Mxu.staged_eq, Mxu.reg_accLhs_ne _ _ _ _ _ _ _ _ (by simp), Mxu.reg_pushed_of_none _ _ _ _ _ hr,
    Mxu.live_accLhs, if_neg (by simp), Mxu.live_pushed, Mxu.live_pushed,
    Mxu.read_accLhs_ne _ _ _ _ _ _ _ _ _ (Or.inl (by decide)), Mxu.read_pushed, Mxu.read_pushed]
  rfl

/-- Between passes both staging registers of both units are empty. -/
theorem chain_reg (n : ℕ) (h : n ≤ 32) (q r : Fin 2) : (chain T X n h).reg q r = none := by
  induction n generalizing q r with
  | zero => exact Mxu.reg_init q r
  | succ n ih => exact pass_reg _ _ _ _ _ (ih (by omega)) q r

/-- What either unit reads after a pass from the chain's state. -/
theorem chain_read_succ (n : ℕ) (h : n + 1 ≤ 32) (q : Fin 2) : (chain T X (n + 1) h).read q 0 fits_0_192 = fun i =>
    Mxu.deposit ((chain T X n (by omega)).live q (Mxu.row fits_0_192 (i 0))) ((chain T X n (by omega)).read q 0 fits_0_192 i)
      (FloatOps.mxuPass (DotDims.plain 192 256 256) (X ⟨n, by omega⟩) (T q ⟨n, by omega⟩) i) := by
  match q with
  | 0 => exact pass_read0 _ _ _ _ _ (chain_reg T X n (by omega))
  | 1 => exact pass_read1 _ _ _ _ _ (chain_reg T X n (by omega))

/-- After `n` passes a unit reads the sum of the products of the `n` passes. -/
theorem chain_read (n : ℕ) (h : n ≤ 32) (q : Fin 2) (i : Fin 192) (j : Fin 256) :
    ((chain T X n h).read q 0 fits_0_192 (ix2 i j) : EReal)
      = ∑ k : Fin n, ∑ e : Fin 256, (X ⟨k, by omega⟩ (ix2 i e) : EReal) * T q ⟨k, by omega⟩ (ix2 e j) := by
  induction n with
  | zero => rw [Fin.sum_univ_zero]; exact Ideal.ofBits_zero_f32
  | succ n ih =>
    rw [chain_read_succ, Fin.sum_univ_castSucc]
    dsimp only
    rw [mxuPass_apply]
    cases n with
    | zero =>
      rw [Fin.sum_univ_zero, zero_add]
      rfl
    | succ n =>
      have hl : (chain T X (n + 1) (by omega)).live q (Mxu.row fits_0_192 ((ix2 i j : S192x256.Idx) 0)) = true := pass_live _ _ _ _ _ q i
      rw [hl, Mxu.deposit_true, ih (by omega)]
      rfl

/-- The even columns: the sum over the passes of the products with the first unit's tiles. -/
theorem evenSum_apply (i : Fin 192) (j : Fin 256) :
    (evenSum T X (ix2 i j) : EReal) = ∑ k : Fin 32, ∑ e : Fin 256, (X k (ix2 i e) : EReal) * T 0 k (ix2 e j) :=
  chain_read T X 32 _ 0 i j

/-- The odd columns: the sum over the passes of the products with the second unit's tiles. -/
theorem oddSum_apply (i : Fin 192) (j : Fin 256) :
    (oddSum T X (ix2 i j) : EReal) = ∑ k : Fin 32, ∑ e : Fin 256, (X k (ix2 i e) : EReal) * T 1 k (ix2 e j) := by
  unfold oddSum
  rw [Mxu.read_pop_ne _ _ _ _ _ _ _ (Or.inl (by decide))]
  exact chain_read T X 32 _ 1 i j

end Cert.Proof.Chain

end
-- ==== Proof.Tile.lean ====
/-
  The weight tile of a pass at an index, with ideal floats: a code of four bits, less its zero point, times its scale.
-/
module

public import proofs.«01_k».proof.Proof.Block
public import Idealize.ShloMosaic.Lib.BitcastFour
public import Idealize.ShloMosaic.Lib.Pointwise
public import Idealize.ShloMosaic.Lib.Pipeline.ValueKit

@[expose] public section

set_option maxRecDepth 16384

noncomputable section

namespace Cert.Proof.Tile

open Cert.KernelIdeal Cert.KernelIdeal.Gen Cert.Proof.Block
open Idealize.ShloMosaic Idealize.ShloMosaic.TcCoe Idealize.ShloMosaic.Tactic

/-- The nibble `f` of a byte (0 the low one, 1 the high one), as eight bits. -/
def nibble (f : Fin 2) (b : BitVec 8) : BitVec 8 := (b >>> (4 * f.val)) &&& 15#8

/-- The nibble `f` of a byte as a number. -/
def code (f : Fin 2) (b : BitVec 8) : EReal := (((nibble f b).toInt : ℝ) : EReal)

/-- Bit `q` of a nibble is bit `q + 4 f` of the byte for `q < 4`, and clear above. -/
theorem nibble_getLsbD (f : Fin 2) (b : BitVec 8) (q : ℕ) (hq : q < 8) :
    (nibble f b).getLsbD q = (b.getLsbD (4 * f.val + q) && decide (q < 4)) := by
  have h15 : (15#8 : BitVec 8).getLsbD q = decide (q < 4) := by interval_cases q <;> rfl
  unfold nibble
  rw [BitVec.getLsbD_and, BitVec.getLsbD_ushiftRight, h15]

/-- Bit `p` of the mask that keeps the low nibble of each of four bytes. -/
theorem mask_getLsbD (p : ℕ) (hp : p < 32) : (252645135#32 : BitVec 32).getLsbD p = decide (p % 8 < 4) := by
  interval_cases p <;> rfl

/-- The shift of nibble `f` is four times `f`. -/
theorem shrui_shiftOf (f : Fin 2) (x : BitVec 32) : IntOp.shrui .vector x (shiftOf f) = x >>> (4 * f.val) := by
  match f with
  | 0 => simp [IntOp.shrui, shiftOf]
  | 1 => simp [IntOp.shrui, shiftOf]

/-- The codes of a tile: at each place the nibble of the byte there. -/
theorem codes_apply (f : Fin 2) (w : Vec Ideal S256x256 .i8) (a : Fin 256) (j : Fin 256) :
    codes (shiftOf f) w (ix2 a j) = nibble f (w (ix2 a j)) := by
  apply BitVec.eq_of_getLsbD_eq
  intro q hq
  unfold codes
  rw [bitcast_getLsbD _ _ _ q hq (by decide), nibble_getLsbD f _ q hq]
  have hrow : S256x256.row (ix2 a j) = a.val := rfl
  have hp : (S256x256.row (ix2 a j) * 8 + q) % 32 = 8 * (a.val % 4) + q := by rw [hrow]; omega
  have hi : bitcasts_S64x256_w32_S256x256_w8.srcIdx (ix2 a j) ((S256x256.row (ix2 a j) * 8 + q) / 32)
      (fun c hc => (Nat.div_lt_iff_lt_mul (by decide)).2 (bitcasts_S64x256_w32_S256x256_w8.pos_lt (ix2 a j) q hq c hc))
      = ValueIdx.ix2 (⟨a.val / 4, by omega⟩ : Fin 64) j := by
    funext c
    match c with
    | ⟨0, _⟩ =>
      refine Fin.ext ((bitcasts_S64x256_w32_S256x256_w8.srcIdx_row _ _ _ ⟨0, Nat.zero_lt_two⟩ rfl).trans ?_)
      rw [hrow]; show _ = a.val / 4; omega
    | ⟨1, _⟩ => exact Fin.ext (bitcasts_S64x256_w32_S256x256_w8.srcIdx_other _ _ _ ⟨1, Nat.one_lt_two⟩ (by show ¬ 1 + 2 = 2; omega))
  rw [hi, hp]
  show ((IntOp.shrui .vector (bitcast S64x256 32 w bitcasts_S256x256_w8_S64x256_w32 (ValueIdx.ix2 (⟨a.val / 4, by omega⟩ : Fin 64) j)) (shiftOf f))
    &&& 252645135#32).getLsbD _ = _
  rw [shrui_shiftOf, BitVec.getLsbD_and, BitVec.getLsbD_ushiftRight, mask_getLsbD _ (by omega)]
  have hm : (8 * (a.val % 4) + q) % 8 = q := by omega
  rw [hm]
  by_cases h4 : q < 4
  · have hf := f.isLt
    rw [bitcast_8_32_getLsbD_ix2 w bitcasts_S256x256_w8_S64x256_w32 ⟨a.val / 4, by omega⟩ j (4 * f.val + (8 * (a.val % 4) + q)) (by omega) a
      (by show a.val = 4 * (a.val / 4) + _; omega)]
    have hb : (4 * f.val + (8 * (a.val % 4) + q)) % 8 = 4 * f.val + q := by omega
    rw [hb, ix2_eq_valueIdx]
  · simp [h4]

/-! ## The rows of the table -/

/-- A row of the table spread over a group reads the row's first copy. -/
theorem spread_apply (raw : Vec Ideal S1x1x1x2x256 .bf16) (a : Fin 128) (j : Fin 256) :
    spread raw (ix2 a j) = raw (ix5 0 0 0 0 j) := by
  pointwise [spread]

/-- Both copies of a row of a 128-lane field are the row. -/
theorem pair128_apply (v : FVec Ideal S64x128 .f32) (g : Fin 64) (p : Fin 2) (l : Fin 128) :
    pair128 v (ix5 0 0 g p l) = v (ix2 g l) := by
  pointwise [pair128]
  exact ite_self _

/-- Both copies of a row of a 256-lane field are the row. -/
theorem pair256_apply (v : FVec Ideal S64x256 .f32) (g : Fin 64) (p : Fin 2) (l : Fin 256) :
    pair256 v (ix5 0 0 g p l) = v (ix2 g l) := by
  pointwise [pair256]
  exact ite_self _

/-- A byte widened with zeros, shifted and masked, read as a number, is the nibble. -/
theorem nibble_word (f : Fin 2) (b : BitVec 8) :
    (IntOp.andi (IntOp.shrsi .vector (b.setWidth 32) (shiftOf f)) 15#32).toInt = (nibble f b).toInt := by
  revert f b; decide +kernel

/-- The zero points of one nibble at an index. -/
theorem zeroField_apply (f : Fin 2) (z : Vec Ideal S64x256 .i8) (g : Fin 64) (l : Fin 256) :
    (zeroField (shiftOf f) z (ix2 g l) : EReal) = code f (z (ix2 g l)) := by
  pointwise [zeroField]
  show (((IntOp.andi (IntOp.shrsi .vector (BitVec.setWidth 32 (z (ix2 g l))) (shiftOf f)) 15#32).toInt : ℝ) : EReal) = _
  rw [nibble_word]
  rfl

/-- The word that says which nibble: 0 or 1. -/
def bitOf (f : Fin 2) : BitVec 32 := match f with
  | 0 => 0#32
  | 1 => 1#32

/-- The lane a scale is picked from. -/
theorem lane_eq (f : Fin 2) (l : Fin 128) :
    (Scalar.select
      (IntOp.cmpi CmpIPredicate.slt (IntOp.andi (IntOp.addi (IntOp.muli (2#32) (BitVec.ofNat 32 l.val)) (bitOf f)) 127#32) 0#32)
      (IntOp.addi (IntOp.andi (IntOp.addi (IntOp.muli (2#32) (BitVec.ofNat 32 l.val)) (bitOf f)) 127#32) 128#32)
      (IntOp.andi (IntOp.addi (IntOp.muli (2#32) (BitVec.ofNat 32 l.val)) (bitOf f)) 127#32)).toNat % 128
    = (2 * l.val + f.val) % 128 := by
  revert f l; decide +kernel

/-- Picking from two vectors side by side: lane `l` is lane `2 l + f` of the two together. -/
theorem pick_apply (f : Fin 2) (a b : FVec Ideal S64x128 .f32) (g : Fin 64) (l : Fin 128) :
    pick (bitOf f) a b (ix2 g l)
      = if h : l.val < 64 then a (ix2 g ⟨2 * l.val + f.val, by omega⟩) else b (ix2 g ⟨2 * l.val + f.val - 128, by omega⟩) := by
  pointwise [pick, wrap64, srcLane, lanes64]
  simp only [lane_eq]
  have hlt : IntOp.cmpi CmpIPredicate.slt (BitVec.ofNat 32 l.val) 64#32 = if l.val < 64 then 1#1 else 0#1 := by
    revert l; decide +kernel
  rw [hlt]
  have hf := f.isLt
  by_cases h : l.val < 64
  · rw [if_pos h, dif_pos h]
    refine congrArg (fun i => a (ix2 g i)) (Fin.ext ?_)
    show (2 * l.val + f.val) % 128 = 2 * l.val + f.val; omega
  · rw [if_neg h, dif_neg h]
    refine congrArg (fun i => b (ix2 g i)) (Fin.ext ?_)
    show (2 * l.val + f.val) % 128 = 2 * l.val + f.val - 128; omega

/-- The scales of one nibble for the low columns: every second one. -/
theorem scaleLo_apply (f : Fin 2) (s : Vec Ideal S64x512 .bf16) (g : Fin 64) (l : Fin 128) :
    scaleLo (bitOf f) s (ix2 g l) = s (ix2 g ⟨2 * l.val + f.val, by omega⟩) := by
  unfold scaleLo
  rw [pick_apply]
  split
  · pointwise
  · pointwise
    congr 2; apply Fin.ext; simp only []; omega

/-- The scales of one nibble for the high columns. -/
theorem scaleHi_apply (f : Fin 2) (s : Vec Ideal S64x512 .bf16) (g : Fin 64) (l : Fin 128) :
    scaleHi (bitOf f) s (ix2 g l) = s (ix2 g ⟨2 * (128 + l.val) + f.val, by omega⟩) := by
  unfold scaleHi
  rw [pick_apply]
  split
  · pointwise
    congr 2; apply Fin.ext; simp only []; omega
  · pointwise
    congr 2; apply Fin.ext; simp only []; omega

/-- What the table holds: at kind 0 the scales, at kind 1 the zero points. -/
def tableVal (s : Vec Ideal S64x512 .bf16) (z : Vec Ideal S64x256 .i8) (f : Fin 2) (w : Fin 2) (g : Fin 64) (l : Fin 256) : EReal :=
  if w.val = 0 then s (ix2 g ⟨2 * l.val + f.val, by omega⟩) else code f (z (ix2 g l))

/-- A 128-lane store of scales holds what the table is to hold there. -/
theorem scalePiece (s : Vec Ideal S64x512 .bf16) (z : Vec Ideal S64x256 .i8) (f : Fin 2) (o : ℕ) (ho : o + 128 ≤ 256)
    (inb : ∀ a, (![f.val, 0, 0, 0, o] : Fin 5 → ℕ) a + S1x1x64x2x128.size a ≤ S2x2x64x2x256.size a)
    (v : FVec Ideal S64x128 .f32) (hv : ∀ g l, v (ix2 g l) = s (ix2 g ⟨2 * (o + l.val) + f.val, by omega⟩)) (x : S1x1x64x2x128.Idx) :
    (fun y : S2x2x64x2x256.Idx => tableVal s z (y 0) (y 1) (y 2) (y 4))
        ((Rect.unit (s := S2x2x64x2x256) ![f.val, 0, 0, 0, o] S1x1x64x2x128.size inb).emb x) = pair128 v x := by
  obtain ⟨a, b, g, p, l, rfl⟩ : ∃ (a : Fin 1) (b : Fin 1) (g : Fin 64) (p : Fin 2) (l : Fin 128), x = ix5 a b g p l :=
    ⟨x 0, x 1, x 2, x 3, x 4, eq_ix5 x⟩
  obtain rfl : a = 0 := Subsingleton.elim _ _
  obtain rfl : b = 0 := Subsingleton.elim _ _
  rw [pair128_apply, hv]
  have e := Rect.idx_unit_val (s := S2x2x64x2x256) ![f.val, 0, 0, 0, o] S1x1x64x2x128.size inb (ix5 0 0 g p l)
  generalize hy : (Rect.unit (s := S2x2x64x2x256) ![f.val, 0, 0, 0, o] S1x1x64x2x128.size inb).idx (ix5 0 0 g p l) = y at e
  have hy' : (Rect.unit (s := S2x2x64x2x256) ![f.val, 0, 0, 0, o] S1x1x64x2x128.size inb).emb (ix5 0 0 g p l) = y := hy
  rw [hy']
  have e0 : (y 0).val = f.val := e 0
  have e1 : (y 1).val = 0 := e 1
  have e2 : (y 2).val = 0 + g.val := e 2
  have e4 : (y 4).val = o + l.val := e 4
  dsimp only
  unfold tableVal
  rw [if_pos e1]
  congr 2
  · exact Fin.ext (by omega)
  · apply Fin.ext; show 2 * (y 4).val + (y 0).val = 2 * (o + l.val) + f.val; omega

/-- A store of zero points holds what the table is to hold there. -/
theorem zeroPiece (s : Vec Ideal S64x512 .bf16) (z : Vec Ideal S64x256 .i8) (f : Fin 2)
    (inb : ∀ a, (![f.val, 1, 0, 0, 0] : Fin 5 → ℕ) a + S1x1x64x2x256.size a ≤ S2x2x64x2x256.size a) (x : S1x1x64x2x256.Idx) :
    (fun y : S2x2x64x2x256.Idx => tableVal s z (y 0) (y 1) (y 2) (y 4))
        ((Rect.unit (s := S2x2x64x2x256) ![f.val, 1, 0, 0, 0] S1x1x64x2x256.size inb).emb x) = pair256 (zeroField (shiftOf f) z) x := by
  obtain ⟨a, b, g, p, l, rfl⟩ : ∃ (a : Fin 1) (b : Fin 1) (g : Fin 64) (p : Fin 2) (l : Fin 256), x = ix5 a b g p l :=
    ⟨x 0, x 1, x 2, x 3, x 4, eq_ix5 x⟩
  obtain rfl : a = 0 := Subsingleton.elim _ _
  obtain rfl : b = 0 := Subsingleton.elim _ _
  rw [pair256_apply, zeroField_apply]
  have e := Rect.idx_unit_val (s := S2x2x64x2x256) ![f.val, 1, 0, 0, 0] S1x1x64x2x256.size inb (ix5 0 0 g p l)
  generalize hy : (Rect.unit (s := S2x2x64x2x256) ![f.val, 1, 0, 0, 0] S1x1x64x2x256.size inb).idx (ix5 0 0 g p l) = y at e
  have hy' : (Rect.unit (s := S2x2x64x2x256) ![f.val, 1, 0, 0, 0] S1x1x64x2x256.size inb).emb (ix5 0 0 g p l) = y := hy
  rw [hy']
  have e0 : (y 0).val = f.val := e 0
  have e1 : (y 1).val = 1 := e 1
  have e2 : (y 2).val = 0 + g.val := e 2
  have e4 : (y 4).val = 0 + l.val := e 4
  dsimp only
  unfold tableVal
  rw [if_neg (by omega), show (y 0 : Fin 2) = f from Fin.ext e0, show (y 2 : Fin 64) = g from Fin.ext (by omega), show (y 4 : Fin 256) = l from Fin.ext (by omega)]

/-- The table at an index. -/
theorem table_apply (s : Vec Ideal S64x512 .bf16) (z : Vec Ideal S64x256 .i8) (y : S2x2x64x2x256.Idx) :
    (table s z y : EReal) = tableVal s z (y 0) (y 1) (y 2) (y 4) := by
  refine View.canon_apply_of_pieces (Val := Elt Ideal) (e := .bf16) (fun y => tableVal s z (y 0) (y 1) (y 2) (y 4)) (tablePieces s z) (fun p hp x => ?_) y
    (table_cover s z y)
  simp only [tablePieces, List.mem_cons, List.mem_nil_iff, or_false] at hp
  rcases hp with rfl | rfl | rfl | rfl | rfl | rfl
  · exact (scalePiece s z 1 128 (by decide) inb_S2x2x64x2x256_S1x1x64x2x128_1_0_0_0_128 _ (scaleHi_apply 1 s) x).symm
  · exact (scalePiece s z 1 0 (by decide) inb_S2x2x64x2x256_S1x1x64x2x128_1_0_0_0_0 _ (fun g l => (scaleLo_apply 1 s g l).trans (by simp only [Nat.zero_add])) x).symm
  · exact (zeroPiece s z 1 inb_S2x2x64x2x256_S1x1x64x2x256_1_1_0_0_0 x).symm
  · exact (scalePiece s z 0 128 (by decide) inb_S2x2x64x2x256_S1x1x64x2x128_0_0_0_0_128 _ (scaleHi_apply 0 s) x).symm
  · exact (scalePiece s z 0 0 (by decide) inb_S2x2x64x2x256_S1x1x64x2x128_0_0_0_0_0 _ (fun g l => (scaleLo_apply 0 s g l).trans (by simp only [Nat.zero_add])) x).symm
  · exact (zeroPiece s z 0 inb_S2x2x64x2x256_S1x1x64x2x256_0_1_0_0_0 x).symm

/-- A row of the table at an index. -/
theorem row_apply (s : Vec Ideal S64x512 .bf16) (z : Vec Ideal S64x256 .i8) (f w : Fin 2) (g : Fin 64) (j : Fin 256) :
    (View.ld (table s z) (rowRect f w g) (ix5 0 0 0 0 j) : EReal) = tableVal s z f w g j := by
  refine (View.ld_unit_apply_of (table s z) _ _ _ (ix5 0 0 0 0 j) (ix5 f w g 0 j : S2x2x64x2x256.Idx) (fun a => by
    match a with
    | 0 => rfl
    | 1 => rfl
    | 2 => rfl
    | 3 => rfl
    | 4 => exact (Nat.zero_add _).symm)).trans (table_apply s z _)

/-! ## The tile -/

/-- A tile at an index, by the half the row lies in. -/
theorem tileOf_apply (c : IVec S256x256 8) (z0 s0 z1 s1 : Vec Ideal S1x1x1x2x256 .bf16) (a : Fin 256) (j : Fin 256) :
    (tileOf c z0 s0 z1 s1 (ix2 a j) : EReal)
      = ((((c (ix2 a j)).toInt : ℝ) : EReal) - (if a.val < 128 then z0 (ix5 0 0 0 0 j) else z1 (ix5 0 0 0 0 j)))
        * (if a.val < 128 then s0 (ix5 0 0 0 0 j) else s1 (ix5 0 0 0 0 j)) := by
  pointwise [tileOf]
  simp only [spread_apply]
  by_cases h : a.val < 128
  · simp only [h, if_true, dif_pos]; rfl
  · simp only [h, if_false, dif_neg, not_false_iff]
    have e : (⟨128 + (a.val - 128), by omega⟩ : Fin 256) = a := Fin.ext (by show 128 + (a.val - 128) = a.val; omega)
    rw [e]; rfl

/-- The tile of pass `k` and nibble `f` at an index: the code there, less the zero point of its group, times the scale. -/
theorem tile_apply (W : Fin 32 → Vec Ideal S256x256 .i8) (s : Vec Ideal S64x512 .bf16) (z : Vec Ideal S64x256 .i8) (f : Fin 2) (k : Fin 32)
    (a : Fin 256) (j : Fin 256) :
    (tile W (fun f w g => View.ld (table s z) (rowRect f w g)) f k (ix2 a j) : EReal)
      = (code f (W k (ix2 a j)) - code f (z (ix2 (⟨2 * k.val + a.val / 128, by omega⟩ : Fin 64) j)))
        * s (ix2 (⟨2 * k.val + a.val / 128, by omega⟩ : Fin 64) ⟨2 * j.val + f.val, by omega⟩) := by
  unfold tile
  rw [tileOf_apply, codes_apply]
  simp only [row_apply]
  by_cases h : a.val < 128
  · rw [if_pos h, if_pos h]
    have e : (⟨2 * k.val + a.val / 128, by omega⟩ : Fin 64) = ⟨2 * k.val, by omega⟩ := Fin.ext (by show 2 * k.val + a.val / 128 = 2 * k.val; omega)
    rw [e]; rfl
  · rw [if_neg h, if_neg h]
    have e : (⟨2 * k.val + a.val / 128, by omega⟩ : Fin 64) = ⟨2 * k.val + 1, by omega⟩ := Fin.ext (by show 2 * k.val + a.val / 128 = 2 * k.val + 1; omega)
    rw [e]; rfl

end Cert.Proof.Tile
end
-- ==== Proof.OutBlock.lean ====
/-
  The block of the result one grid step stores, at an index, with ideal floats: a sum over all 8192 input features.
-/
module

public import proofs.«01_k».proof.Proof.Chain
public import proofs.«01_k».proof.Proof.Tile

@[expose] public section

set_option maxRecDepth 16384

noncomputable section

namespace Cert.Proof.OutBlock

open Cert.KernelIdeal Cert.KernelIdeal.Gen Cert.Proof.Block Cert.Proof.Tile
open Idealize.ShloMosaic Idealize.ShloMosaic.TcCoe Idealize.ShloMosaic.Tactic

/-! ## Even and odd columns interleaved -/

/-- The lane an interleaved store gathers from: half the lane, plus 0 or 64. -/
theorem half_eq (h : Fin 2) (l : Fin 128) :
    (Scalar.select
      (IntOp.cmpi CmpIPredicate.slt (IntOp.addi (IntOp.shrsi ArithUnit.vector (BitVec.ofNat 32 l.val) 1#32) (BitVec.ofNat 32 (64 * h.val))) 0#32)
      (IntOp.addi (IntOp.addi (IntOp.shrsi ArithUnit.vector (BitVec.ofNat 32 l.val) 1#32) (BitVec.ofNat 32 (64 * h.val))) 128#32)
      (IntOp.addi (IntOp.shrsi ArithUnit.vector (BitVec.ofNat 32 l.val) 1#32) (BitVec.ofNat 32 (64 * h.val)))).toNat % 128
    = l.val / 2 + 64 * h.val := by
  revert h l; decide +kernel

/-- An interleaved store at an index: the odd lanes from the odd columns, the even lanes from the even ones. -/
theorem weave_apply (h : Fin 2) (e o : FVec Ideal S192x128 .f32) (r : Fin 192) (l : Fin 128) :
    weave (BitVec.ofNat 32 (64 * h.val)) e o (ix2 r l)
      = if l.val % 2 = 1 then o (ix2 r ⟨l.val / 2 + 64 * h.val, by omega⟩) else e (ix2 r ⟨l.val / 2 + 64 * h.val, by omega⟩) := by
  pointwise [weave, isOdd, halfLane, wrap192, lanes192]
  simp only [half_eq]
  have hc : IntOp.cmpi CmpIPredicate.eq (IntOp.andi (BitVec.ofNat 32 l.val) 1#32) 1#32 = if l.val % 2 = 1 then 1#1 else 0#1 := by
    revert l; decide +kernel
  rw [hc]
  by_cases h1 : l.val % 2 = 1
  · rw [if_pos h1, if_pos h1]; rfl
  · rw [if_neg h1, if_neg h1]; rfl

/-- What the result block holds: column `q` is column `q / 2` of the odd or of the even columns, by `q`'s parity. -/
def outVal (e o : FVec Ideal S192x256 .f32) (r : Fin 192) (q : Fin 512) : EReal :=
  if q.val % 2 = 1 then o (ix2 r ⟨q.val / 2, by omega⟩) else e (ix2 r ⟨q.val / 2, by omega⟩)

/-- One of the four stores holds what the block is to hold there: `b` says which half of the columns, `h` which half of it. -/
theorem outPiece (e o : FVec Ideal S192x256 .f32) (b h : Fin 2) (e' o' : FVec Ideal S192x128 .f32)
    (he : ∀ r l, e' (ix2 r l) = e (ix2 r ⟨128 * b.val + l.val, by omega⟩)) (ho : ∀ r l, o' (ix2 r l) = o (ix2 r ⟨128 * b.val + l.val, by omega⟩))
    (inb : ∀ a, (![0, 256 * b.val + 128 * h.val] : Fin 2 → ℕ) a + S192x128.size a ≤ S192x512.size a) (x : S192x128.Idx) :
    weave (BitVec.ofNat 32 (64 * h.val)) e' o' x = (fun y : S192x512.Idx => outVal e o (y 0) (y 1))
        ((Rect.unit (s := S192x512) ![0, 256 * b.val + 128 * h.val] S192x128.size inb).emb x) := by
  obtain ⟨r, l, rfl⟩ : ∃ (r : Fin 192) (l : Fin 128), x = ix2 r l := ⟨x 0, x 1, eq_ix2 x⟩
  rw [weave_apply, he, ho]
  have c := Rect.idx_unit_val (s := S192x512) ![0, 256 * b.val + 128 * h.val] S192x128.size inb (ix2 r l)
  generalize hy : (Rect.unit (s := S192x512) ![0, 256 * b.val + 128 * h.val] S192x128.size inb).idx (ix2 r l) = y at c
  have hy' : (Rect.unit (s := S192x512) ![0, 256 * b.val + 128 * h.val] S192x128.size inb).emb (ix2 r l) = y := hy
  rw [hy']
  have c0 : (y 0).val = 0 + r.val := c 0
  have c1 : (y 1).val = 256 * b.val + 128 * h.val + l.val := c 1
  dsimp only
  unfold outVal
  have hr : (y 0 : Fin 192) = r := Fin.ext (by omega)
  have hq : (⟨(y 1).val / 2, by have := (y 1).isLt; have : (y 1).val < 512 := this; omega⟩ : Fin 256) = ⟨128 * b.val + (l.val / 2 + 64 * h.val), by omega⟩ :=
    Fin.ext (by show (y 1).val / 2 = 128 * b.val + (l.val / 2 + 64 * h.val); omega)
  have hm : (y 1).val % 2 = l.val % 2 := by omega
  rw [hm, hr]
  by_cases h1 : l.val % 2 = 1
  · rw [if_pos h1, if_pos h1]; exact congrArg (fun i => o (ix2 r i)) hq.symm
  · rw [if_neg h1, if_neg h1]; exact congrArg (fun i => e (ix2 r i)) hq.symm

/-- The low columns of a pop at an index. -/
theorem low_apply (v : FVec Ideal S192x256 .f32) (r : Fin 192) (l : Fin 128) :
    low128 v (ix2 r l) = v (ix2 r ⟨128 * (0 : Fin 2).val + l.val, by show 128 * 0 + l.val < 256; omega⟩) := by
  pointwise [low128]

/-- The high columns of a pop at an index. -/
theorem high_apply (v : FVec Ideal S192x256 .f32) (r : Fin 192) (l : Fin 128) :
    high128 v (ix2 r l) = v (ix2 r ⟨128 * (1 : Fin 2).val + l.val, by show 128 * 1 + l.val < 256; omega⟩) := by
  pointwise [high128]

/-- The four stores together, at an index. -/
theorem canon_out (e o : FVec Ideal S192x256 .f32) (r : Fin 192) (q : Fin 512) :
    (View.canon (outPieces e o) (ix2 r q) : EReal) = outVal e o r q := by
  refine View.canon_apply_of_pieces (Val := Elt Ideal) (e := .bf16) (fun y : S192x512.Idx => outVal e o (y 0) (y 1)) (outPieces e o)
    (fun p hp x => ?_) (ix2 r q) (out_cover e o _)
  simp only [outPieces, List.mem_cons, List.mem_nil_iff, or_false] at hp
  rcases hp with rfl | rfl | rfl | rfl
  · exact outPiece e o 1 1 _ _ (high_apply e) (high_apply o) inb_S192x512_S192x128_0_384 x
  · exact outPiece e o 1 0 _ _ (high_apply e) (high_apply o) inb_S192x512_S192x128_0_256 x
  · exact outPiece e o 0 1 _ _ (low_apply e) (low_apply o) inb_S192x512_S192x128_0_128 x
  · exact outPiece e o 0 0 _ _ (low_apply e) (low_apply o) inb_S192x512_S192x128_0_0 x

/-! ## The sum over the input features -/

/-- Thirty-two runs of 256 are 8192. -/
theorem sum_passes (g : Fin 8192 → EReal) :
    ∑ k : Fin 32, ∑ e : Fin 256, g ⟨256 * k.val + e.val, by omega⟩ = ∑ d : Fin 8192, g d := by
  rw [← Equiv.sum_comp (finProdFinEquiv : Fin 32 × Fin 256 ≃ Fin 8192), Fintype.sum_prod_type]
  refine Finset.sum_congr rfl fun k _ => Finset.sum_congr rfl fun e _ => congrArg g (Fin.ext ?_)
  show 256 * k.val + e.val = e.val + 256 * k.val
  omega

/-- One product: the input feature `d` of a row, times the weight dequantized: code, less the group's zero point, times the
    group's scale. -/
def prod (x0 : Vec Ideal S192x8192 .bf16) (x1 : Vec Ideal S8192x256 .i8) (x2 : Vec Ideal S64x512 .bf16) (x3 : Vec Ideal S64x256 .i8)
    (r : Fin 192) (f : Fin 2) (j : Fin 256) (d : Fin 8192) : EReal :=
  x0 (ix2 r d) * ((code f (x1 (ix2 d j)) - code f (x3 (ix2 (⟨d.val / 128, by omega⟩ : Fin 64) j)))
    * x2 (ix2 (⟨d.val / 128, by omega⟩ : Fin 64) ⟨2 * j.val + f.val, by omega⟩))

/-- A load of a whole block of scales is the block. -/
theorem ld_scales (x2 : Vec Ideal S64x512 .bf16) :
    View.ld x2 (Rect.unit ![0, 0] S64x512.size inb_S64x512_S64x512_0_0) = x2 := by
  funext i
  refine View.ld_unit_apply_of x2 _ _ _ i i fun a => ?_
  match a with
  | 0 => exact (Nat.zero_add _).symm
  | 1 => exact (Nat.zero_add _).symm

/-- A load of a whole block of zero points is the block. -/
theorem ld_zeros (x3 : Vec Ideal S64x256 .i8) :
    View.ld x3 (Rect.unit ![0, 0] S64x256.size inb_S64x256_S64x256_0_0) = x3 := by
  funext i
  refine View.ld_unit_apply_of x3 _ _ _ i i fun a => ?_
  match a with
  | 0 => exact (Nat.zero_add _).symm
  | 1 => exact (Nat.zero_add _).symm

/-- One product of a pass is the product of the feature it stands for. -/
theorem pass_prod (x0 : Vec Ideal S192x8192 .bf16) (x1 : Vec Ideal S8192x256 .i8) (x2 : Vec Ideal S64x512 .bf16) (x3 : Vec Ideal S64x256 .i8)
    (r : Fin 192) (f : Fin 2) (j : Fin 256) (k : Fin 32) (e : Fin 256) :
    (lhs (fun k => View.ld x0 (xRect k)) k (ix2 r e) : EReal)
        * tile (fun k => View.ld x1 (wRect k)) (fun f w g => View.ld (table x2 x3) (rowRect f w g)) f k (ix2 e j)
      = prod x0 x1 x2 x3 r f j ⟨256 * k.val + e.val, by omega⟩ := by
  have hx : (lhs (fun k => View.ld x0 (xRect k)) k (ix2 r e) : EReal) = x0 (ix2 r ⟨256 * k.val + e.val, by omega⟩) := by
    unfold lhs
    rw [shapeCast_self]
    refine View.ld_unit_apply_of x0 _ _ _ (ix2 r e) _ fun a => ?_
    match a with
    | 0 => exact (Nat.zero_add _).symm
    | 1 => rfl
  have hw : View.ld x1 (wRect k) (ix2 e j) = x1 (ix2 (⟨256 * k.val + e.val, by omega⟩ : Fin 8192) j) := by
    refine View.ld_unit_apply_of x1 _ _ _ (ix2 e j) _ fun a => ?_
    match a with
    | 0 => rfl
    | 1 => exact (Nat.zero_add _).symm
  rw [hx, tile_apply, hw]
  unfold prod
  have hg : (⟨(256 * k.val + e.val) / 128, by omega⟩ : Fin 64) = ⟨2 * k.val + e.val / 128, by omega⟩ :=
    Fin.ext (by show (256 * k.val + e.val) / 128 = 2 * k.val + e.val / 128; omega)
  rw [hg]

/-- The even columns of the block of the result. -/
theorem even_apply (x0 : Vec Ideal S192x8192 .bf16) (x1 : Vec Ideal S8192x256 .i8) (x2 : Vec Ideal S64x512 .bf16) (x3 : Vec Ideal S64x256 .i8)
    (r : Fin 192) (j : Fin 256) :
    (evenSum (tile (fun k => View.ld x1 (wRect k)) (fun f w g => View.ld (table x2 x3) (rowRect f w g))) (lhs fun k => View.ld x0 (xRect k)) (ix2 r j) : EReal)
      = ∑ d, prod x0 x1 x2 x3 r 0 j d := by
  rw [Chain.evenSum_apply, ← sum_passes]
  exact Finset.sum_congr rfl fun k _ => Finset.sum_congr rfl fun e _ => pass_prod x0 x1 x2 x3 r 0 j k e

/-- The odd columns of the block of the result. -/
theorem odd_apply (x0 : Vec Ideal S192x8192 .bf16) (x1 : Vec Ideal S8192x256 .i8) (x2 : Vec Ideal S64x512 .bf16) (x3 : Vec Ideal S64x256 .i8)
    (r : Fin 192) (j : Fin 256) :
    (oddSum (tile (fun k => View.ld x1 (wRect k)) (fun f w g => View.ld (table x2 x3) (rowRect f w g))) (lhs fun k => View.ld x0 (xRect k)) (ix2 r j) : EReal)
      = ∑ d, prod x0 x1 x2 x3 r 1 j d := by
  rw [Chain.oddSum_apply, ← sum_passes]
  exact Finset.sum_congr rfl fun k _ => Finset.sum_congr rfl fun e _ => pass_prod x0 x1 x2 x3 r 1 j k e

/-- The block of the result at an index. -/
theorem out_apply (x0 : Vec Ideal S192x8192 .bf16) (x1 : Vec Ideal S8192x256 .i8) (x2 : Vec Ideal S64x512 .bf16) (x3 : Vec Ideal S64x256 .i8)
    (r : Fin 192) (q : Fin 512) :
    (out x0 x1 x2 x3 (ix2 r q) : EReal)
      = ∑ d, prod x0 x1 x2 x3 r ⟨q.val % 2, Nat.mod_lt _ (by decide)⟩ ⟨q.val / 2, by omega⟩ d := by
  unfold out outOf
  rw [canon_out, ld_scales, ld_zeros]
  unfold outVal
  by_cases h : q.val % 2 = 1
  · rw [if_pos h, odd_apply]
    have e : (⟨q.val % 2, Nat.mod_lt _ (by decide)⟩ : Fin 2) = 1 := Fin.ext h
    rw [e]
  · rw [if_neg h, even_apply]
    have e : (⟨q.val % 2, Nat.mod_lt _ (by decide)⟩ : Fin 2) = 0 := Fin.ext (by show q.val % 2 = 0; omega)
    rw [e]

end Cert.Proof.OutBlock

end
-- ==== Proof.Spec.lean ====
/-
  The linear layer as one formula over extended reals: each result is the sum over the input features of the input times the
  dequantized weight.
-/
module

public import proofs.«01_k».proof.Proof.Tile

@[expose] public section

noncomputable section

namespace Cert.Proof.Spec

open Cert.KernelIdeal Cert.Proof.Tile
open Idealize.ShloMosaic

/-- One result: row `r`, output column `q`. Column `q` is nibble `q % 2` of byte column `q / 2`; input feature `d` lies in
    group `d / 128`. -/
def at_ (x : Vec Ideal S192x1x8192 .bf16) (w : Vec Ideal S8192x2048 .i8) (s : Vec Ideal S64x4096 .bf16) (z : Vec Ideal S64x2048 .i8)
    (r : Fin 192) (q : Fin 4096) : EReal :=
  ∑ d : Fin 8192, x (ix3 r 0 d)
    * ((code ⟨q.val % 2, Nat.mod_lt _ (by decide)⟩ (w (ix2 d ⟨q.val / 2, by omega⟩))
        - code ⟨q.val % 2, Nat.mod_lt _ (by decide)⟩ (z (ix2 (⟨d.val / 128, by omega⟩ : Fin 64) ⟨q.val / 2, by omega⟩)))
      * s (ix2 (⟨d.val / 128, by omega⟩ : Fin 64) q))

/-- The whole result. -/
def result (x : Vec Ideal S192x1x8192 .bf16) (w : Vec Ideal S8192x2048 .i8) (s : Vec Ideal S64x4096 .bf16) (z : Vec Ideal S64x2048 .i8) :
    Vec Ideal S192x1x4096 .bf16 := fun i => at_ x w s z (i 0) (i 2)

end Cert.Proof.Spec

end
-- ==== Proof.KernelValue.lean ====
/-
  What the kernel's output array holds after the run with ideal floats: the linear layer of the arguments.
-/
module

public import proofs.«01_k».proof.Proof.KernelIdealFrame
public import proofs.«01_k».proof.Proof.OutBlock
public import proofs.«01_k».proof.Proof.Spec
public import Idealize.ShloMosaic.Lib.Claim
public import Idealize.ShloMosaic.Lib.Pipeline.ValueKit

@[expose] public section

set_option maxRecDepth 16384

noncomputable section

namespace Cert.Proof.KernelValue

open Cert.KernelIdeal Cert.KernelIdeal.Gen Cert.Proof.KernelIdealFrame Cert.Proof.Tile
open Idealize.ShloMosaic Idealize.ShloMosaic.TcCoe Idealize.ShloMosaic.Tactic

variable (m : (ℓ : Loc nD τ sig) → Buf (Elt Ideal) ℓ)

/-- The inputs at launch on device `c`. -/
abbrev argX (c : Dev nD) : Vec Ideal S192x1x8192 .bf16 := m ((c.tc : Thread nD τ).loc main_arg0)
/-- The packed weights at launch on device `c`. -/
abbrev argW (c : Dev nD) : Vec Ideal S8192x2048 .i8 := m ((c.tc : Thread nD τ).loc main_arg1)
/-- The scales at launch on device `c`. -/
abbrev argS (c : Dev nD) : Vec Ideal S64x4096 .bf16 := m ((c.tc : Thread nD τ).loc main_arg2)
/-- The packed zero points at launch on device `c`. -/
abbrev argZ (c : Dev nD) : Vec Ideal S64x2048 .i8 := m ((c.tc : Thread nD τ).loc main_arg3)

/-- The inputs are one block at every step. -/
theorem idx0 (t : Fin cfg0.N) : win0_0.index t 0 = 0 ∧ win0_0.index t 1 = 0 := by revert t; decide +kernel
/-- The block of the packed weights at step `t` is block `t` of the columns. -/
theorem idx1 (t : Fin cfg0.N) : win0_1.index t 0 = 0 ∧ win0_1.index t 1 = t.val := by revert t; decide +kernel
/-- The block of the scales at step `t` is block `t` of the columns. -/
theorem idx2 (t : Fin cfg0.N) : win0_2.index t 0 = 0 ∧ win0_2.index t 1 = t.val := by revert t; decide +kernel
/-- The block of the packed zero points at step `t` is block `t` of the columns. -/
theorem idx3 (t : Fin cfg0.N) : win0_3.index t 0 = 0 ∧ win0_3.index t 1 = t.val := by revert t; decide +kernel
/-- The block of the result at step `t` is block `t` of the columns. -/
theorem idx4 (t : Fin cfg0.N) : win0_4.index t 0 = 0 ∧ win0_4.index t 1 = t.val := by revert t; decide +kernel

/-- There are eight grid steps. -/
theorem step_lt (t : Fin cfg0.N) : t.val < 8 := t.isLt

/-- The array of the input's window: the argument with its middle axis dropped. -/
theorem V_main_v0 (c : Dev nD) :
    V m c main_v0 = (shapeCast S192x8192 (argX m c) shapeCasts_S192x1x8192_S192x8192 : Vec Ideal S192x8192 .bf16) := by
  dsimp only [V, V0]
  simp only [List.flatten_cons, List.flatten_nil, List.append_nil, hostOps0]
  after_results
  rfl

/-- The input's block is the input. -/
theorem blkX (c : Dev nD) (t : Fin cfg0.N) (r : Fin 192) (d : Fin 8192) : iblk m c 0 t (ix2 r d) = argX m c (ix3 r 0 d) := by
  have h := idx0 t
  have e : iblk m c 0 t (ix2 r d) = (V m c main_v0 : Vec Ideal S192x8192 .bf16) (ix2 r d) := by
    blk_ext [iblk, h.1, h.2]
  rw [e, V_main_v0]
  pointwise

/-- The block of packed weights at a step. -/
theorem blkW (c : Dev nD) (t : Fin cfg0.N) (d : Fin 8192) (j : Fin 256) :
    iblk m c 1 t (ix2 d j) = argW m c (ix2 d ⟨256 * t.val + j.val, by have := step_lt t; omega⟩) := by
  have h := idx1 t
  blk_ext [iblk, V_main_arg1, h.1, h.2]

/-- The block of scales at a step. -/
theorem blkS (c : Dev nD) (t : Fin cfg0.N) (g : Fin 64) (q : Fin 512) :
    iblk m c 2 t (ix2 g q) = argS m c (ix2 g ⟨512 * t.val + q.val, by have := step_lt t; omega⟩) := by
  have h := idx2 t
  blk_ext [iblk, V_main_arg2, h.1, h.2]

/-- The block of zero points at a step. -/
theorem blkZ (c : Dev nD) (t : Fin cfg0.N) (g : Fin 64) (j : Fin 256) :
    iblk m c 3 t (ix2 g j) = argZ m c (ix2 g ⟨256 * t.val + j.val, by have := step_lt t; omega⟩) := by
  have h := idx3 t
  blk_ext [iblk, V_main_arg3, h.1, h.2]

/-- What a step stores is the linear layer at the step's columns. -/
theorem out_eq (c : Dev nD) (t : Fin cfg0.N) (r : Fin 192) (q : Fin 512) :
    (Block.out (iblk m c 0 t) (iblk m c 1 t) (iblk m c 2 t) (iblk m c 3 t) (ix2 r q) : EReal)
      = Spec.at_ (argX m c) (argW m c) (argS m c) (argZ m c) r ⟨512 * t.val + q.val, by have := step_lt t; omega⟩ := by
  have ht := step_lt t
  rw [OutBlock.out_apply]
  unfold Spec.at_
  refine Finset.sum_congr rfl fun d _ => ?_
  unfold OutBlock.prod
  have hf : (⟨(512 * t.val + q.val) % 2, Nat.mod_lt _ (by decide)⟩ : Fin 2) = ⟨q.val % 2, Nat.mod_lt _ (by decide)⟩ :=
    Fin.ext (by show (512 * t.val + q.val) % 2 = q.val % 2; omega)
  have hj : (⟨(512 * t.val + q.val) / 2, by omega⟩ : Fin 2048) = ⟨256 * t.val + q.val / 2, by omega⟩ :=
    Fin.ext (by show (512 * t.val + q.val) / 2 = 256 * t.val + q.val / 2; omega)
  have hq : (⟨2 * (q.val / 2) + q.val % 2, by omega⟩ : Fin 512) = q := Fin.ext (by show 2 * (q.val / 2) + q.val % 2 = q.val; omega)
  rw [blkX, blkW, blkZ, hf, hj, hq, blkS]

/-- The output array after the run. -/
theorem arr_eq (c : Dev nD) : ((dats m 0 c).arrAt 4 cfg0.N : Vec Ideal S192x4096 .bf16)
    = fun i : S192x4096.Idx => Spec.at_ (argX m c) (argW m c) (argS m c) (argZ m c) (i 0) (i 1) := by
  refine (dats m 0 c).arrAt_eq_of_covers 4 _ (by decide +kernel) fun t hf y => ?_
  blk_simp
  rw [after0_4]
  obtain ⟨r, q, rfl⟩ : ∃ (r : Fin 192) (q : Fin 512), y = ix2 r q := ⟨y 0, y 1, eq_ix2 y⟩
  refine (out_eq m c t r q).trans ?_
  have h := idx4 t
  have ht := step_lt t
  have e0 : ((win0_4.blk t).view.emb (ix2 r q) 0 : Fin 192) = r := by
    apply Fin.ext; blk_simp [h.1, h.2]
  have e1 : ((win0_4.blk t).view.emb (ix2 r q) 1 : Fin 4096) = (⟨512 * t.val + q.val, by omega⟩ : Fin 4096) := by
    apply Fin.ext; blk_simp [h.1, h.2]; show t.val * 512 + q.val = 512 * t.val + q.val; omega
  exact (congrArg₂ (Spec.at_ (argX m c) (argW m c) (argS m c) (argZ m c)) e0 e1).symm

/-- An array with a middle axis of one put in, at an index. -/
theorem cast_eq (v : Vec Ideal S192x4096 .bf16) :
    (shapeCast S192x1x4096 v shapeCasts_S192x4096_S192x1x4096 : Vec Ideal S192x1x4096 .bf16) = fun i => v (ix2 (i 0) (i 2)) := by
  funext i
  obtain ⟨r, b, q, rfl⟩ : ∃ (r : Fin 192) (b : Fin 1) (q : Fin 4096), i = ix3 r b q := ⟨i 0, i 1, i 2, eq_ix3 i⟩
  pointwise

/-- The result of the run: the linear layer of the arguments. -/
theorem result_eq (c : Dev nD) :
    (shapeCast S192x1x4096 ((dats m 0 c).arrAt 4 cfg0.N : Vec Ideal S192x4096 .bf16) shapeCasts_S192x4096_S192x1x4096 : Vec Ideal S192x1x4096 .bf16)
      = Spec.result (argX m c) (argW m c) (argS m c) (argZ m c) :=
  (cast_eq _).trans (funext fun i => congrFun (arr_eq m c) (ix2 (i 0) (i 2)))

end Cert.Proof.KernelValue

end
-- ==== Proof.ReferenceValue.lean ====
/-
  What the reference computes with ideal floats: the linear layer of its arguments.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.Proof.ReferenceValue

open Cert.ReferenceIdeal Cert.ReferenceIdeal.Gen Cert.Proof.Tile
open Idealize.ShloMosaic Idealize.ShloMosaic.TcCoe Idealize.ShloMosaic.Tactic

/-- The dequantized weights of one nibble from its integer codes and zero points and its scales. -/
def weights (c : IVec S8192x2048 32) (zc : IVec S64x2048 32) (sc : FVec Ideal S64x2048 .bf16) : FVec Ideal S8192x2048 .bf16 :=
  shapeCast _ (mulf (subf (shapeCast _ (sitofp .bf16 c) shapeCasts_S8192x2048_S64x128x2048)
    (broadcastInDim S64x128x2048 ![0, 1, 2] bcast_S64x1x2048_S64x128x2048_0_1_2 (broadcastInDim S64x1x2048 ![0, 2] bcast_S64x2048_S64x1x2048_0_2 (sitofp .bf16 zc))))
    (broadcastInDim S64x128x2048 ![0, 1, 2] bcast_S64x1x2048_S64x128x2048_0_1_2 (broadcastInDim S64x1x2048 ![0, 2] bcast_S64x2048_S64x1x2048_0_2 sc)))
    shapeCasts_S64x128x2048_S8192x2048

/-- A dequantized weight: the code less the zero point of its group, times the scale of its group. -/
theorem weights_apply (c : IVec S8192x2048 32) (zc : IVec S64x2048 32) (sc : FVec Ideal S64x2048 .bf16) (d : Fin 8192) (j : Fin 2048) :
    (weights c zc sc (ix2 d j) : EReal)
      = ((((c (ix2 d j)).toInt : ℝ) : EReal) - (((zc (ix2 (⟨d.val / 128, by omega⟩ : Fin 64) j)).toInt : ℝ) : EReal))
        * sc (ix2 (⟨d.val / 128, by omega⟩ : Fin 64) j) := by
  pointwise [weights]
  rfl

/-- The low nibble of a byte, widened and masked. -/
theorem low_word (b : BitVec 8) : (IntOp.andi (b.setWidth 32) 15#32).toInt = (nibble 0 b).toInt := by
  revert b; decide +kernel

/-- The high nibble of a byte, widened, shifted down and masked. -/
theorem high_word (b : BitVec 8) : (IntOp.andi (IntOp.shrsi .host (b.setWidth 32) 4#32) 15#32).toInt = (nibble 1 b).toInt := by
  revert b; decide +kernel

/-- The low codes of the weights. -/
theorem lowW_apply (w : IVec S8192x2048 8) (i : S8192x2048.Idx) :
    ((andi (extui 32 w natLt_8_32) (broadcastInDim S8192x2048 ![] bcast_S_S8192x2048 (constantI S_ 32 15#32)) : IVec S8192x2048 32) i).toInt
      = (nibble 0 (w i)).toInt := low_word (w i)

/-- The high codes of the weights. -/
theorem highW_apply (w : IVec S8192x2048 8) (i : S8192x2048.Idx) :
    ((andi (Host.shrsi (extui 32 w natLt_8_32) (broadcastInDim S8192x2048 ![] bcast_S_S8192x2048 (constantI S_ 32 4#32)))
      (broadcastInDim S8192x2048 ![] bcast_S_S8192x2048 (constantI S_ 32 15#32)) : IVec S8192x2048 32) i).toInt
      = (nibble 1 (w i)).toInt := high_word (w i)

/-- The low zero points. -/
theorem lowZ_apply (z : IVec S64x2048 8) (i : S64x2048.Idx) :
    ((andi (extui 32 z natLt_8_32) (broadcastInDim S64x2048 ![] bcast_S_S64x2048 (constantI S_ 32 15#32)) : IVec S64x2048 32) i).toInt
      = (nibble 0 (z i)).toInt := low_word (z i)

/-- The high zero points. -/
theorem highZ_apply (z : IVec S64x2048 8) (i : S64x2048.Idx) :
    ((andi (Host.shrsi (extui 32 z natLt_8_32) (broadcastInDim S64x2048 ![] bcast_S_S64x2048 (constantI S_ 32 4#32)))
      (broadcastInDim S64x2048 ![] bcast_S_S64x2048 (constantI S_ 32 15#32)) : IVec S64x2048 32) i).toInt
      = (nibble 1 (z i)).toInt := high_word (z i)

/-- The scales of the even columns. -/
theorem scales0_apply (s : FVec Ideal S64x4096 .bf16) (g : Fin 64) (j : Fin 2048) :
    (shapeCast S64x2048 (extractStridedSlice S64x2048x1 ![0, 0, 0] (shapeCast _ s shapeCasts_S64x4096_S64x2048x2) slices_S64x2048x2_S64x2048x1_0_0_0) shapeCasts_S64x2048x1_S64x2048 : FVec Ideal S64x2048 .bf16) (ix2 g j)
      = s (ix2 g ⟨2 * j.val, by omega⟩) := by
  pointwise
  refine congrArg (fun i => s (ix2 g i)) (Fin.ext ?_)
  show j.val * 2 = 2 * j.val
  omega

/-- The scales of the odd columns. -/
theorem scales1_apply (s : FVec Ideal S64x4096 .bf16) (g : Fin 64) (j : Fin 2048) :
    (shapeCast S64x2048 (extractStridedSlice S64x2048x1 ![0, 0, 1] (shapeCast _ s shapeCasts_S64x4096_S64x2048x2) slices_S64x2048x2_S64x2048x1_0_0_1) shapeCasts_S64x2048x1_S64x2048 : FVec Ideal S64x2048 .bf16) (ix2 g j)
      = s (ix2 g ⟨2 * j.val + 1, by omega⟩) := by
  pointwise
  refine congrArg (fun i => s (ix2 g i)) (Fin.ext ?_)
  show j.val * 2 + 1 = 2 * j.val + 1
  omega

/-- The result interleaves the columns of the two halves. -/
theorem out_apply (a b : FVec Ideal S192x2048 .f32) (r : Fin 192) (q : Fin 4096) :
    ((truncf .bf16 (shapeCast S192x1x4096 (concatenate S192x2048x2 2 [⟨S192x2048x1, (broadcastInDim S192x2048x1 ![0, 1] bcast_S192x2048_S192x2048x1_0_1 a)⟩, ⟨S192x2048x1, (broadcastInDim S192x2048x1 ![0, 1] bcast_S192x2048_S192x2048x1_0_1 b)⟩] concatenates_S192x2048x1_S192x2048x1_S192x2048x2_d2) shapeCasts_S192x2048x2_S192x1x4096) bitsLt_bf16_f32 : FVec Ideal S192x1x4096 .bf16) (ix3 r 0 q) : EReal)
      = if q.val % 2 < 1 then a (ix2 r ⟨q.val / 2, by omega⟩) else b (ix2 r ⟨q.val / 2, by omega⟩) := by
  pointwise
  rfl

/-- One half of the result: the inputs times the dequantized weights, summed over the input features. -/
theorem dot_apply (x : FVec Ideal S192x1x8192 .bf16) (w : FVec Ideal S8192x2048 .bf16) (r : Fin 192) (j : Fin 2048) :
    ((Host.dotGeneral dot_S192x8192_S8192x2048_S192x2048_1_0_0_1_n_n none (shapeCast _ x shapeCasts_S192x1x8192_S192x8192) w : FVec Ideal S192x2048 .f32) (ix2 r j) : EReal)
      = ∑ d : Fin 8192, (x (ix3 r 0 d) * w (ix2 d j) : EReal) := by
  pointwise

/-- The even columns of the result, as the reference computes them. -/
def even (x : FVec Ideal S192x1x8192 .bf16) (w : IVec S8192x2048 8) (s : FVec Ideal S64x4096 .bf16) (z : IVec S64x2048 8) : FVec Ideal S192x2048 .f32 :=
  Host.dotGeneral dot_S192x8192_S8192x2048_S192x2048_1_0_0_1_n_n none (shapeCast _ x shapeCasts_S192x1x8192_S192x8192)
    (weights (andi (extui 32 w natLt_8_32) (broadcastInDim S8192x2048 ![] bcast_S_S8192x2048 (constantI S_ 32 15#32)))
      (andi (extui 32 z natLt_8_32) (broadcastInDim S64x2048 ![] bcast_S_S64x2048 (constantI S_ 32 15#32)))
      (shapeCast S64x2048 (extractStridedSlice S64x2048x1 ![0, 0, 0] (shapeCast _ s shapeCasts_S64x4096_S64x2048x2) slices_S64x2048x2_S64x2048x1_0_0_0) shapeCasts_S64x2048x1_S64x2048))

/-- The even columns are those of the linear layer. -/
theorem even_apply (x : FVec Ideal S192x1x8192 .bf16) (w : IVec S8192x2048 8) (s : FVec Ideal S64x4096 .bf16) (z : IVec S64x2048 8)
    (r : Fin 192) (q : Fin 4096) (hq : q.val % 2 = 0) :
    (even x w s z (ix2 r ⟨q.val / 2, by omega⟩) : EReal) = Spec.at_ x w s z r q := by
  have hf : (⟨q.val % 2, Nat.mod_lt _ (by decide)⟩ : Fin 2) = 0 := Fin.ext hq
  have hi : (⟨2 * (q.val / 2), by omega⟩ : Fin 4096) = q := Fin.ext (by show 2 * (q.val / 2) = q.val; omega)
  refine (dot_apply x _ r _).trans ?_
  unfold Spec.at_
  refine Finset.sum_congr rfl fun d _ => ?_
  rw [weights_apply, lowW_apply, lowZ_apply, scales0_apply, hf, hi]
  rfl

/-- The odd columns of the result, as the reference computes them. -/
def odd (x : FVec Ideal S192x1x8192 .bf16) (w : IVec S8192x2048 8) (s : FVec Ideal S64x4096 .bf16) (z : IVec S64x2048 8) : FVec Ideal S192x2048 .f32 :=
  Host.dotGeneral dot_S192x8192_S8192x2048_S192x2048_1_0_0_1_n_n none (shapeCast _ x shapeCasts_S192x1x8192_S192x8192)
    (weights (andi (Host.shrsi (extui 32 w natLt_8_32) (broadcastInDim S8192x2048 ![] bcast_S_S8192x2048 (constantI S_ 32 4#32))) (broadcastInDim S8192x2048 ![] bcast_S_S8192x2048 (constantI S_ 32 15#32)))
      (andi (Host.shrsi (extui 32 z natLt_8_32) (broadcastInDim S64x2048 ![] bcast_S_S64x2048 (constantI S_ 32 4#32))) (broadcastInDim S64x2048 ![] bcast_S_S64x2048 (constantI S_ 32 15#32)))
      (shapeCast S64x2048 (extractStridedSlice S64x2048x1 ![0, 0, 1] (shapeCast _ s shapeCasts_S64x4096_S64x2048x2) slices_S64x2048x2_S64x2048x1_0_0_1) shapeCasts_S64x2048x1_S64x2048))

/-- The odd columns are those of the linear layer. -/
theorem odd_apply (x : FVec Ideal S192x1x8192 .bf16) (w : IVec S8192x2048 8) (s : FVec Ideal S64x4096 .bf16) (z : IVec S64x2048 8)
    (r : Fin 192) (q : Fin 4096) (hq : q.val % 2 = 1) :
    (odd x w s z (ix2 r ⟨q.val / 2, by omega⟩) : EReal) = Spec.at_ x w s z r q := by
  have hf : (⟨q.val % 2, Nat.mod_lt _ (by decide)⟩ : Fin 2) = 1 := Fin.ext hq
  have hi : (⟨2 * (q.val / 2) + 1, by omega⟩ : Fin 4096) = q := Fin.ext (by show 2 * (q.val / 2) + 1 = q.val; omega)
  refine (dot_apply x _ r _).trans ?_
  unfold Spec.at_
  refine Finset.sum_congr rfl fun d _ => ?_
  rw [weights_apply, highW_apply, highZ_apply, scales1_apply, hf, hi]
  rfl

/-- What the reference computes is the linear layer of its arguments. -/
theorem result_eq (x : FVec Ideal S192x1x8192 .bf16) (w : IVec S8192x2048 8) (s : FVec Ideal S64x4096 .bf16) (z : IVec S64x2048 8) :
    (truncf .bf16 (shapeCast S192x1x4096 (concatenate S192x2048x2 2 [⟨S192x2048x1, (broadcastInDim S192x2048x1 ![0, 1] bcast_S192x2048_S192x2048x1_0_1 (even x w s z))⟩, ⟨S192x2048x1, (broadcastInDim S192x2048x1 ![0, 1] bcast_S192x2048_S192x2048x1_0_1 (odd x w s z))⟩] concatenates_S192x2048x1_S192x2048x1_S192x2048x2_d2) shapeCasts_S192x2048x2_S192x1x4096) bitsLt_bf16_f32 : FVec Ideal S192x1x4096 .bf16)
      = Spec.result x w s z := by
  funext i
  obtain ⟨r, b, q, rfl⟩ : ∃ (r : Fin 192) (b : Fin 1) (q : Fin 4096), i = ix3 r b q := ⟨i 0, i 1, i 2, eq_ix3 i⟩
  obtain rfl : b = 0 := Subsingleton.elim _ _
  refine (out_apply _ _ r q).trans ?_
  show _ = Spec.at_ x w s z r q
  split
  · exact even_apply x w s z r q (by omega)
  · exact odd_apply x w s z r q (by omega)

end Cert.Proof.ReferenceValue

end
-- ==== Proof.lean ====
/-
  The certificate: the frames of the three programs, the preservation of the kernel by its idealization, and the equality of
  the idealized kernel and the reference.
-/
module

public import proofs.«01_k».proof.Defs
public import proofs.«01_k».proof.Proof.KernelFrame
public import proofs.«01_k».proof.Proof.KernelIdealFrame
public import proofs.«01_k».proof.Proof.KernelValue
public import proofs.«01_k».proof.Proof.ReferenceValue
public import proofs.«01_k».proof.Proof.Gen.ReferenceIdeal
public import proofs.«01_k».proof.Proof.Gen.ReferenceIdeal.Run
public import Idealize.ShloMosaic.Lib.Bf16Pair
public import Idealize.ShloMosaic.Lib.Bf16PairInverse
public import Idealize.ShloMosaic.Lib.Quiescent

@[expose] public section

namespace Cert.Proof

open Idealize.ShloMosaic Idealize.ShloMosaic.TcCoe Idealize.SL.Sem

/-- The reference's frame, off its run: the argument arrays end unchanged and every semaphore counter at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

open Cert.KernelIdeal in
/-- The idealized kernel is the kernel with each rewritten operation replaced by its rule's statement, one conjunct per
    rule and shape. -/
theorem preserves : Cert.preserves_Kernel_KernelIdeal :=
  ⟨IdealRules.bf16_pair.bufferStatement _ _, IdealRules.bf16_pair.packStatement _, IdealRules.bf16_pair.statement _ _,
    IdealRules.bf16_pair.packStatement _, IdealRules.bf16_pair.statement _ _, IdealRules.bf16_pair.statement _ _,
    IdealRules.bf16_pair.statement _ _, IdealRules.bf16_pair.packStatement _, IdealRules.bf16_pair.statement _ _⟩

/-- From equal arguments the idealized kernel and the reference end with equal results: each is the linear layer of its
    arguments. -/
theorem algebraic : Cert.algebraic_KernelIdeal_ReferenceIdeal := fun m ρ m' ρ' _ hm =>
  ⟨fun c => Spec.result (KernelValue.argX m c) (KernelValue.argW m c) (KernelValue.argS m c) (KernelValue.argZ m c),
    (θ_run Cert.KernelIdeal.defs _ _).mono (fun _ h c => ⟨(h c).1.trans (KernelValue.result_eq m c), (h c).2⟩)
      (KernelIdealFrame.run m ρ),
    (θ_run Cert.ReferenceIdeal.defs _ _).mono (fun _ h c => ⟨(h c).1.trans ((ReferenceValue.result_eq _ _ _ _).trans (by
        rw [(hm c).1, (hm c).2.1, (hm c).2.2.1, (hm c).2.2.2])), (h c).2⟩)
      (Cert.ReferenceIdeal.Value.run (F := Ideal) m' ρ')⟩

/-- The certificate's claim. -/
theorem claim : Cert.Claim :=
  ⟨Cert.Kernel.Gen.facts, Cert.KernelIdeal.Gen.facts, Cert.ReferenceIdeal.Gen.facts,
    fun m ρ _ => KernelFrame.frame m ρ, fun m ρ _ => KernelIdealFrame.frame m ρ, frame_reference, preserves, algebraic⟩

end Cert.Proof
